-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨4, ![4, 256, 16, 64]⟩ ⟨4, ![4, 1024, 16, 64]⟩ 1 4 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.block ⟨4, ![4, 256, 16, 64]⟩ ⟨4, ![4, 1024, 16, 64]⟩ 1 4 c (m' (((0 : Dev Cert.ReferenceIdeal.nD).tc : Thread Cert.ReferenceIdeal.nD Cert.ReferenceIdeal.τ).loc Cert.ReferenceIdeal.main_arg1))
      ∧ m ((c.tc : Thread Cert.KernelIdeal.nD Cert.KernelIdeal.τ).loc Cert.KernelIdeal.main_arg2) = Layout.block ⟨4, ![4, 256, 16, 64]⟩ ⟨4, ![4, 1024, 16, 64]⟩ 1 4 c (m' (((0 : Dev Cert.ReferenceIdeal.nD).tc : Thread Cert.ReferenceIdeal.nD Cert.ReferenceIdeal.τ).loc Cert.ReferenceIdeal.main_arg2))) →
    ∃ (v0 : Buf (Elt Ideal) (((0 : Dev Cert.ReferenceIdeal.nD).tc : Thread Cert.ReferenceIdeal.nD Cert.ReferenceIdeal.τ).loc Cert.ReferenceIdeal.main_v13)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = Layout.block ⟨4, ![4, 256, 16, 64]⟩ ⟨4, ![4, 1024, 16, 64]⟩ 1 4 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v13) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S4x256x16x64 : Shape := ⟨4, ![4, 256, 16, 64]⟩
abbrev S4x4x256x16x64 : Shape := ⟨5, ![4, 4, 256, 16, 64]⟩
abbrev S2 : Shape := ⟨1, ![2]⟩
abbrev S3 : Shape := ⟨1, ![3]⟩
abbrev S1 : Shape := ⟨1, ![1]⟩
abbrev S_ : Shape := ⟨0, ![]⟩
abbrev S1x4x256x16x64 : Shape := ⟨5, ![1, 4, 256, 16, 64]⟩
abbrev S1x256x16x64 : Shape := ⟨4, ![1, 256, 16, 64]⟩
abbrev S4x1x256x16x64 : Shape := ⟨5, ![4, 1, 256, 16, 64]⟩
abbrev S1x256x1x64 : Shape := ⟨4, ![1, 256, 1, 64]⟩
abbrev S256x64 : Shape := ⟨2, ![256, 64]⟩
abbrev S1x1x256x1x64 : Shape := ⟨5, ![1, 1, 256, 1, 64]⟩
abbrev S1024x64 : Shape := ⟨2, ![1024, 64]⟩
abbrev S256x1024 : Shape := ⟨2, ![256, 1024]⟩
abbrev S256 : Shape := ⟨1, ![256]⟩
abbrev S256x1 : Shape := ⟨2, ![256, 1]⟩

abbrev nBuf : Space → Nat
  | .hbm => 6
  | .vmem => 8
  | .smem => 0
  | _ => 0

abbrev bufTy : (tb : Table) → Fin (tcTables nBuf tb) → BufTy
  | .hbm, ⟨0, _⟩ => ⟨S4x256x16x64, .f32⟩
  | .hbm, ⟨1, _⟩ => ⟨S4x256x16x64, .f32⟩
  | .hbm, ⟨2, _⟩ => ⟨S4x256x16x64, .f32⟩
  | .hbm, ⟨3, _⟩ => ⟨S4x4x256x16x64, .f32⟩
  | .hbm, ⟨4, _⟩ => ⟨S4x4x256x16x64, .f32⟩
  | .hbm, ⟨5, _⟩ => ⟨S4x256x16x64, .f32⟩
  | .local _ .vmem, ⟨0, _⟩ => ⟨S1x256x16x64, .f32⟩
  | .local _ .vmem, ⟨1, _⟩ => ⟨S1x256x16x64, .f32⟩
  | .local _ .vmem, ⟨2, _⟩ => ⟨S4x1x256x16x64, .f32⟩
  | .local _ .vmem, ⟨3, _⟩ => ⟨S4x1x256x16x64, .f32⟩
  | .local _ .vmem, ⟨4, _⟩ => ⟨S4x1x256x16x64, .f32⟩
  | .local _ .vmem, ⟨5, _⟩ => ⟨S4x1x256x16x64, .f32⟩
  | .local _ .vmem, ⟨6, _⟩ => ⟨S1x256x16x64, .f32⟩
  | .local _ .vmem, ⟨7, _⟩ => ⟨S1x256x16x64, .f32⟩
  | _, _ => ⟨S4x256x16x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 1 → Bool
  | ⟨0, _⟩ => false
  | _ => false

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  (ofTc nBuf bufTy 1 22 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v1_0 : Ref sig .tc := ⟨.hbm, 3, rfl⟩
abbrev main_v1_1 : Ref sig .tc := ⟨.hbm, 4, rfl⟩
abbrev main_v2 : Ref sig .tc := ⟨.hbm, 5, rfl⟩
abbrev cc1_stg0_0 : Ref sig .tc := ⟨.vmem, 0, rfl⟩
abbrev cc1_stg0_1 : Ref sig .tc := ⟨.vmem, 1, rfl⟩
abbrev cc1_stg1_0 : Ref sig .tc := ⟨.vmem, 2, rfl⟩
abbrev cc1_stg1_1 : Ref sig .tc := ⟨.vmem, 3, rfl⟩
abbrev cc1_stg2_0 : Ref sig .tc := ⟨.vmem, 4, rfl⟩
abbrev cc1_stg2_1 : Ref sig .tc := ⟨.vmem, 5, rfl⟩
abbrev cc1_stg3_0 : Ref sig .tc := ⟨.vmem, 6, rfl⟩
abbrev cc1_stg3_1 : Ref sig .tc := ⟨.vmem, 7, rfl⟩
abbrev cc1_sem0_0 : DmaSem sig := 14
abbrev cc1_sem0_1 : DmaSem sig := 15
abbrev cc1_sem1_0 : DmaSem sig := 16
abbrev cc1_sem1_1 : DmaSem sig := 17
abbrev cc1_sem2_0 : DmaSem sig := 18
abbrev cc1_sem2_1 : DmaSem sig := 19
abbrev cc1_sem3_0 : DmaSem sig := 20
abbrev cc1_sem3_1 : DmaSem sig := 21
abbrev barrier0 : Sem sig := 0

abbrev nD : Nat := 4
abbrev τ : Topo := Topo.v7x

variable {F : FTy → Type} [FloatOps F]

abbrev grid0 : Pipeline.Grid := .none

def k0_off1 (d0 : Dev nD) : Fin 5 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c0_i32_5 : BitVec 32 := 0#32
  let c0_i32_6 : BitVec 32 := 0#32
  let c0_i32_7 : BitVec 32 := 0#32
  let c0_i32_8 : BitVec 32 := 0#32
  ![v2.toNat, 0, 0, 0, 0]
def k0_dev1 (d0 : Dev nD) : Nat :=
  let c0_i32_26 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_2 : BitVec 32 := 4#32
  let v5 : BitVec 32 := Scalar.addi v2 c4_i32_2
  let c1_i32_3 : BitVec 32 := 1#32
  let v6 : BitVec 32 := Scalar.subi v5 c1_i32_3
  let c4_i32_4 : BitVec 32 := 4#32
  let v7 : BitVec 32 := Scalar.remsi v6 c4_i32_4
  let c1_i32_25 : BitVec 32 := 1#32
  let v25 : BitVec 32 := Scalar.muli v7 c1_i32_25
  let v26 : BitVec 32 := Scalar.addi c0_i32_26 v25
  v26.toNat
def k0_dev2 (d0 : Dev nD) : Nat :=
  let c0_i32_29 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.addi v2 c1_i32_0
  let c4_i32_1 : BitVec 32 := 4#32
  let v4 : BitVec 32 := Scalar.remsi v3 c4_i32_1
  let c1_i32_28 : BitVec 32 := 1#32
  let v27 : BitVec 32 := Scalar.muli v4 c1_i32_28
  let v28 : BitVec 32 := Scalar.addi c0_i32_29 v27
  v28.toNat
def k0_off2 (d0 : Dev nD) (c0_i32_30 : BitVec 32) : Fin 5 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v29 : BitVec 32 := Scalar.subi v2 c0_i32_30
  let c4_i32_31 : BitVec 32 := 4#32
  let v30 : BitVec 32 := Scalar.addi v29 c4_i32_31
  let c4_i32_32 : BitVec 32 := 4#32
  let v31 : BitVec 32 := Scalar.remsi v30 c4_i32_32
  let c0_i32_37 : BitVec 32 := 0#32
  let c0_i32_38 : BitVec 32 := 0#32
  let c0_i32_39 : BitVec 32 := 0#32
  let c0_i32_40 : BitVec 32 := 0#32
  ![v31.toNat, 0, 0, 0, 0]
def k0_dev3 (d0 : Dev nD) : Nat :=
  let c0_i32_36 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.addi v2 c1_i32_0
  let c4_i32_1 : BitVec 32 := 4#32
  let v4 : BitVec 32 := Scalar.remsi v3 c4_i32_1
  let c1_i32_35 : BitVec 32 := 1#32
  let v32 : BitVec 32 := Scalar.muli v4 c1_i32_35
  let v33 : BitVec 32 := Scalar.addi c0_i32_36 v32
  v33.toNat
def k0_dev4 (d0 : Dev nD) : Nat :=
  let c0_i32_48 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.addi v2 c1_i32_0
  let c4_i32_1 : BitVec 32 := 4#32
  let v4 : BitVec 32 := Scalar.remsi v3 c4_i32_1
  let c1_i32_47 : BitVec 32 := 1#32
  let v40 : BitVec 32 := Scalar.muli v4 c1_i32_47
  let v41 : BitVec 32 := Scalar.addi c0_i32_48 v40
  v41.toNat
def k0_dev5 (d0 : Dev nD) : Nat :=
  let c0_i32_109 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.addi v2 c1_i32_0
  let c4_i32_1 : BitVec 32 := 4#32
  let v4 : BitVec 32 := Scalar.remsi v3 c4_i32_1
  let c1_i32_108 : BitVec 32 := 1#32
  let v71 : BitVec 32 := Scalar.muli v4 c1_i32_108
  let v72 : BitVec 32 := Scalar.addi c0_i32_109 v71
  v72.toNat
def k0_dev6 (d0 : Dev nD) : Nat :=
  let c0_i32_121 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.addi v2 c1_i32_0
  let c4_i32_1 : BitVec 32 := 4#32
  let v4 : BitVec 32 := Scalar.remsi v3 c4_i32_1
  let c1_i32_120 : BitVec 32 := 1#32
  let v79 : BitVec 32 := Scalar.muli v4 c1_i32_120
  let v80 : BitVec 32 := Scalar.addi c0_i32_121 v79
  v80.toNat
def k0_dev7 (d0 : Dev nD) : Nat :=
  let c0_i32_182 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.addi v2 c1_i32_0
  let c4_i32_1 : BitVec 32 := 4#32
  let v4 : BitVec 32 := Scalar.remsi v3 c4_i32_1
  let c1_i32_181 : BitVec 32 := 1#32
  let v110 : BitVec 32 := Scalar.muli v4 c1_i32_181
  let v111 : BitVec 32 := Scalar.addi c0_i32_182 v110
  v111.toNat
def k0_dev8 (d0 : Dev nD) : Nat :=
  let c0_i32_194 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.addi v2 c1_i32_0
  let c4_i32_1 : BitVec 32 := 4#32
  let v4 : BitVec 32 := Scalar.remsi v3 c4_i32_1
  let c1_i32_193 : BitVec 32 := 1#32
  let v118 : BitVec 32 := Scalar.muli v4 c1_i32_193
  let v119 : BitVec 32 := Scalar.addi c0_i32_194 v118
  v119.toNat
abbrev grid1 : Pipeline.Grid := ⟨1, ![4], ![false]⟩

def cc1_transform_0 (i : grid1.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc1_transform_1 (i : grid1.Coords) : Fin 5 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, arg0.toNat, c0_i32_0.toNat, c0_i32_1.toNat, c0_i32_2.toNat]

def cc1_transform_2 (i : grid1.Coords) : Fin 5 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, arg0.toNat, c0_i32_0.toNat, c0_i32_1.toNat, c0_i32_2.toNat]

def cc1_transform_3 (i : grid1.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage1_0 : Fin 2 → Memref sig .tc .vmem S1x256x16x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S4x1x256x16x64 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S4x1x256x16x64 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S1x256x16x64 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]
-- ==== ReferenceIdeal.lean ====
abbrev S4x1024x16x64 : Shape := ⟨4, ![4, 1024, 16, 64]⟩
abbrev S4x16x1024x1024 : Shape := ⟨4, ![4, 16, 1024, 1024]⟩
abbrev S_ : Shape := ⟨0, ![]⟩
abbrev S4x16x1024 : Shape := ⟨3, ![4, 16, 1024]⟩
abbrev S4x16x1024x1 : Shape := ⟨4, ![4, 16, 1024, 1]⟩
abbrev S4x16x64x1024 : Shape := ⟨4, ![4, 16, 64, 1024]⟩

abbrev nBuf : Space → Nat
  | .hbm => 20
  | .vmem => 0
  | .smem => 0
  | _ => 0

abbrev bufTy : (tb : Table) → Fin (tcTables nBuf tb) → BufTy
  | .hbm, ⟨0, _⟩ => ⟨S4x1024x16x64, .f32⟩
  | .hbm, ⟨1, _⟩ => ⟨S4x1024x16x64, .f32⟩
  | .hbm, ⟨2, _⟩ => ⟨S4x1024x16x64, .f32⟩
  | .hbm, ⟨3, _⟩ => ⟨S4x16x1024x1024, .f32⟩
  | .hbm, ⟨4, _⟩ => ⟨S_, .f32⟩
  | .hbm, ⟨5, _⟩ => ⟨S4x16x1024x1024, .f32⟩
  | .hbm, ⟨6, _⟩ => ⟨S4x16x1024x1024, .f32⟩
  | .hbm, ⟨7, _⟩ => ⟨S_, .f32⟩
  | .hbm, ⟨8, _⟩ => ⟨S4x16x1024, .f32⟩
  | .hbm, ⟨9, _⟩ => ⟨S4x16x1024x1, .f32⟩
  | .hbm, ⟨10, _⟩ => ⟨S4x16x1024x1024, .f32⟩
  | .hbm, ⟨11, _⟩ => ⟨S4x16x1024x1024, .f32⟩
  | .hbm, ⟨12, _⟩ => ⟨S4x16x1024x1024, .f32⟩
  | .hbm, ⟨13, _⟩ => ⟨S_, .f32⟩
  | .hbm, ⟨14, _⟩ => ⟨S4x16x1024, .f32⟩
  | .hbm, ⟨15, _⟩ => ⟨S4x16x1024x1, .f32⟩
  | .hbm, ⟨16, _⟩ => ⟨S4x16x1024x1024, .f32⟩
  | .hbm, ⟨17, _⟩ => ⟨S4x16x1024x1024, .f32⟩
  | .hbm, ⟨18, _⟩ => ⟨S4x16x64x1024, .f32⟩
  | .hbm, ⟨19, _⟩ => ⟨S4x1024x16x64, .f32⟩
  | _, _ => ⟨S4x1024x16x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_cst_1 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩

abbrev nD : Nat := 1
abbrev τ : Topo := Topo.v7x

variable {F : FTy → Type} [FloatOps F]
-- ==== Proof.Common.lean ====
/- The gather's protocol: the cells, what each transfer and each signal hands over (`gatherRd`), what every device owes at
   the launch, and the levels its waits go by. Over any float values `F`. -/
module

public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Regions
public import proofs.«01_k».proof.Proof.Gen.KernelIdeal.Points
public import Idealize.ShloMosaic.Lib.Rounds
public import Idealize.ShloMosaic.Lib.Ring
public import Idealize.ShloMosaic.Lib.Tactic
public import Idealize.ShloMosaic.Lib.Pipeline.RegionTalk
public import Idealize.ShloMosaic.Lib.Pipeline.Kit

@[expose] public section

noncomputable section

namespace Cert.KernelIdeal.Attn

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg)
open Cert.KernelIdeal Cert.KernelIdeal.Facts₀ Cert.KernelIdeal.Facts

variable {F : FTy → Type}

/-- The pipeline library's ghost copy, and the gather's: duties of a cell's one round are told apart by a `Bool`. -/
abbrev UU : Type := UR sig nD τ × URounds (GSem nD τ sig) Bool

local notation "𝕄" => MT nD τ sig Unit (Elt F) ℕ UU ℕ

abbrev EP : Emb (UR sig nD τ) (MT nD τ sig Unit (Elt F) ℕ UU ℕ) := embL
abbrev ER : Emb (URounds (GSem nD τ sig) Bool) (MT nD τ sig Unit (Elt F) ℕ UU ℕ) := embR

abbrev 𝒱₀ : Variants := Variants.none

/-! ## The ring of devices -/

/-- The next device round the ring, the one before, and the one `k` steps before. -/
def nxt (c : Dev nD) : Dev nD := ⟨(c.val + 1) % 4, Nat.mod_lt _ (by decide)⟩
def prv (c : Dev nD) : Dev nD := ⟨(c.val + 3) % 4, Nat.mod_lt _ (by decide)⟩
def back (c : Dev nD) (k : ℕ) : Dev nD := ⟨((c.val + 4) - k) % 4, Nat.mod_lt _ (by decide)⟩

theorem prv_nxt (c : Dev nD) : prv (nxt c) = c := by revert c; decide
theorem nxt_prv (c : Dev nD) : nxt (prv c) = c := by revert c; decide
theorem back_zero (c : Dev nD) : back c 0 = c := by revert c; decide
theorem back_nxt (c : Dev nD) (h : Fin 3) : back (nxt c) (h.val + 1) = back c h.val := by revert c h; decide
def ring : Dev nD ≃ Dev nD := ⟨nxt, prv, prv_nxt, nxt_prv⟩
def ringInv : Dev nD ≃ Dev nD := ⟨prv, nxt, nxt_prv, prv_nxt⟩

/-! ## The buffers and their slots. `false` is K, `true` is V -/

/-- The device's own block, and the buffer the four blocks are gathered in. -/
def xM : Bool → Memref sig .tc .hbm S4x256x16x64 .f32
  | false => Memref.whole main_arg1
  | true => Memref.whole main_arg2
def bM : Bool → Memref sig .tc .hbm S4x4x256x16x64 .f32
  | false => Memref.whole main_v1_0
  | true => Memref.whole main_v1_1

theorem slot_inb (o : Dev nD) : ∀ a, (![o.val, 0, 0, 0, 0] : Fin 5 → ℕ) a + S1x4x256x16x64.size a ≤ S4x4x256x16x64.size a := by
  revert o; decide

/-- Slot `o` of a gathered buffer: where device `o`'s block goes. -/
abbrev slotR (o : Dev nD) : Rect S4x4x256x16x64 := Rect.unit (s := S4x4x256x16x64) ![o.val, 0, 0, 0, 0] S1x4x256x16x64.size (slot_inb o)
abbrev slotM (b : Bool) (o : Dev nD) : Memref sig .tc .hbm S1x4x256x16x64 .f32 := (bM b).slice (slotR o) (fun _ => rfl)
/-- The same elements without the leading axis of size one. -/
abbrev slotQ (b : Bool) (o : Dev nD) : Memref sig .tc .hbm S4x256x16x64 .f32 :=
  (slotM b o).squeeze S4x256x16x64 squeezes_S1x4x256x16x64_S4x256x16x64

theorem exists_credit : ∃ n : ℕ, n = (slotM false 0).view.dmaCredit := ⟨_, rfl⟩
/-- What one transfer of a slot credits: a number never computed. -/
def N : ℕ := Classical.choose exists_credit
theorem N_eq : (slotM false 0).view.dmaCredit = N := (Classical.choose_spec exists_credit).symm
theorem N_pos : 0 < N := by rw [← N_eq]; exact View.dmaCredit_pos _ (by decide)
theorem credit_slot (b : Bool) (o : Dev nD) : (slotM b o).view.dmaCredit = N := by cases b <;> exact N_eq
theorem credit_slotQ (b : Bool) (o : Dev nD) : (slotQ b o).view.dmaCredit = N := by cases b <;> exact N_eq

variable (m : (ℓ : Loc nD τ sig) → Buf (Elt F) ℓ)

/-- The index behind the slot number. -/
def inner (ix : S4x4x256x16x64.Idx) : S4x256x16x64.Idx := fun a => ix a.succ

/-- Every device's block in its slot. -/
def gathOf (w : Dev nD → S4x256x16x64.Idx → F .f32) (ix : S4x4x256x16x64.Idx) : F .f32 :=
  w ⟨(ix 0).val, (ix 0).isLt⟩ (inner ix)

theorem gathOf_at (w : Dev nD → S4x256x16x64.Idx → F .f32) (o : Dev nD) (ix : S4x4x256x16x64.Idx) (x : S4x256x16x64.Idx)
    (h0 : (ix 0).val = o.val) (hs : inner ix = x) : w o x = gathOf w ix := by
  subst hs
  exact congrArg (fun d => w d (inner ix)) (Fin.ext h0.symm)

/-- The devices' own blocks of K and of V, as the launch has them. -/
def ownK (c : Dev nD) : S4x256x16x64.Idx → F .f32 := m ((c : Thread nD τ).loc main_arg1)
def ownV (c : Dev nD) : S4x256x16x64.Idx → F .f32 := m ((c : Thread nD τ).loc main_arg2)

/-- A device's own block. -/
def own (b : Bool) (c : Dev nD) : (xM b).view.ty.Contents (Elt F) :=
  match b with
  | false => ownK m c
  | true => ownV m c

/-- The gathered K and V. The same on every device. -/
def gath (b : Bool) : (bM b).view.ty.Contents (Elt F) :=
  match b with
  | false => gathOf (ownK m)
  | true => gathOf (ownV m)

abbrev slotPts (b : Bool) (c o : Dev nD) (f : (bM b).view.ty.Contents (Elt F)) : sProp 𝕄 :=
  (slotM b o).view.loc (c : Thread nD τ) ↦[(slotM b o).view.set]{fullShare} f
abbrev xPts (b : Bool) (c : Dev nD) : sProp 𝕄 :=
  (xM b).view.loc (c : Thread nD τ) ↦[(xM b).view.set]{fullShare} own m b c

theorem set_slotQ (b : Bool) (o : Dev nD) : (slotQ b o).view.set = (slotM b o).view.set :=
  View.set_reshape (v := (slotM b o).view) _

/-- Writing back through a view what the view reads off `g` makes the view's elements `g`'s. -/
theorem write_read_on {sp : Space} {s : Shape} {e : EltTy} (v : View sig .tc sp s e) (f g : v.ty.Contents (Elt F)) :
    ∀ i ∈ v.set, v.write (Elt F) f (v.read (Elt F) g) Finset.univ i = g i := by
  intro i hi
  obtain ⟨x, -, rfl⟩ := Finset.mem_map.mp hi
  rw [View.write_emb_of_mem _ _ (Finset.mem_univ _), View.read_apply, cast_cast, cast_eq]

/-- A device's block copied into its slot makes the slot the gathered contents. -/
theorem filled_on (b : Bool) (o : Dev nD) (f : (bM b).view.ty.Contents (Elt F)) :
    ∀ i ∈ (slotM b o).view.set, (slotQ b o).view.write (Elt F) f ((xM b).view.read (Elt F) (own m b o)) Finset.univ i = gath m b i := by
  intro i hi
  rw [← set_slotQ] at hi
  obtain ⟨x, -, rfl⟩ := Finset.mem_map.mp hi
  rw [View.write_emb_of_mem _ _ (Finset.mem_univ _)]
  have hx : Shape.reshapeEquiv (s := S1x4x256x16x64) (s' := S4x256x16x64) squeezes_S1x4x256x16x64_S4x256x16x64.numel_eq x
      = (Fin.cons ⟨0, Nat.one_pos⟩ x : S1x4x256x16x64.Idx) := Shape.reshapeEquiv_cons_one _ x
  have h0 : ((slotR o).emb (Fin.cons ⟨0, Nat.one_pos⟩ x : S1x4x256x16x64.Idx) 0).val = o.val := by
    rw [Rect.emb_apply]; show o.val + 1 * 0 = o.val; omega
  have hs : inner ((slotR o).emb (Fin.cons ⟨0, Nat.one_pos⟩ x : S1x4x256x16x64.Idx)) = x := by
    funext a
    refine Fin.ext ?_
    show ((slotR o).emb (Fin.cons ⟨0, Nat.one_pos⟩ x : S1x4x256x16x64.Idx) a.succ).val = _
    rw [Rect.emb_apply]
    fin_cases a <;> exact (Nat.zero_add _).trans (Nat.one_mul _)
  refine eq_of_heq ((cast_heq _ _).trans ?_)
  rw [View.read_apply]
  refine (cast_heq _ _).trans ?_
  have hx0 : ((slotR o).emb (Shape.reshapeEquiv (s := S1x4x256x16x64) (s' := S4x256x16x64) squeezes_S1x4x256x16x64_S4x256x16x64.numel_eq x) 0).val = o.val := by
    rw [hx]; exact h0
  have hxs : inner ((slotR o).emb (Shape.reshapeEquiv (s := S1x4x256x16x64) (s' := S4x256x16x64) squeezes_S1x4x256x16x64_S4x256x16x64.numel_eq x)) = x := by
    rw [hx]; exact hs
  cases b
  · exact heq_of_eq (gathOf_at (ownK m) o _ x hx0 hxs)
  · exact heq_of_eq (gathOf_at (ownV m) o _ x hx0 hxs)

end Cert.KernelIdeal.Attn

end
-- ==== Proof.Sched.lean ====
/- The gather's schedule: which duties each semaphore cell has, what each duty hands over, what a device owes at the launch,
   and the levels its waits go by. -/
module

public import proofs.«01_k».proof.Proof.Common

@[expose] public section

noncomputable section

namespace Cert.KernelIdeal.Attn

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Facts₀ Cert.KernelIdeal.Facts

variable {F : FTy → Type}

local notation "𝕄" => MT nD τ sig Unit (Elt F) ℕ UU ℕ

variable (m : (ℓ : Loc nD τ sig) → Buf (Elt F) ℓ)

/-! ## The cells -/

/-- The gather's fourteen own semaphores: the two local copies', then for K and for V the three sends' and the three receives'. -/
abbrev dsem (k : Fin 14) : DmaSem sig := ⟨k.val, Nat.lt_of_lt_of_le k.isLt (by decide)⟩
abbrev osem (k : Fin 14) : SemLoc sig := .dma (dsem k)
abbrev cell (c : Dev nD) (k : Fin 14) : GSem nD τ sig := ((c : Thread nD τ), osem k)
abbrev bar (c : Dev nD) : GSem nD τ sig := ((c : Thread nD τ), .reg barrier0)

def fillIx (b : Bool) : Fin 14 := ⟨b.toNat, by cases b <;> decide⟩
def sendIx (b : Bool) (h : Fin 3) : Fin 14 := ⟨2 + 6 * b.toNat + h.val, by revert b h; decide⟩
def recvIx (b : Bool) (h : Fin 3) : Fin 14 := ⟨5 + 6 * b.toNat + h.val, by revert b h; decide⟩

/-- Whether a semaphore of the list is one the previous device's transfer raises. -/
def isRecv (k : Fin 14) : Bool := (5 ≤ k.val && k.val ≤ 7) || 11 ≤ k.val

/-- Whose semaphore of index `k` a device pays: its own, or the next device's receive. -/
def dest (c : Dev nD) (k : Fin 14) : Dev nD := if isRecv k then nxt c else c

theorem dest_fill (c : Dev nD) (b : Bool) : dest c (fillIx b) = c := by cases b <;> rfl
theorem dest_send (c : Dev nD) (b : Bool) (h : Fin 3) : dest c (sendIx b h) = c := by cases b <;> fin_cases h <;> rfl
theorem dest_recv (c : Dev nD) (b : Bool) (h : Fin 3) : dest c (recvIx b h) = nxt c := by cases b <;> fin_cases h <;> rfl

/-! ## What each duty hands over -/

/-- The local copy: the own slot filled, and the own block back. -/
abbrev fillPay (b : Bool) (c : Dev nD) : sProp 𝕄 := iprop(slotPts b c c (gath m b) ∗ xPts m b c)
/-- The sender's half of hop `h`: the slot it read. -/
abbrev sendPay (b : Bool) (h : ℕ) (c : Dev nD) : sProp 𝕄 := slotPts b c (back c h) (gath m b)
/-- The receiver's half of hop `h`: the slot filled. -/
abbrev recvPay (b : Bool) (h : ℕ) (c : Dev nD) : sProp 𝕄 := slotPts b c (back c (h + 1)) (gath m b)

/-- What device `o` is lent for its hop `h`: the next device's slot, at whatever it holds, and that the receive semaphore there
    is in its round. -/
abbrev lend (b : Bool) (h : Fin 3) (o : Dev nD) : sProp 𝕄 :=
  iprop((∃ f, slotPts b (nxt o) (back o h.val) f) ∗ reached ER (cell (nxt o) (recvIx b h)) 0)

/-- Handed over with the barrier signal of the next device: the slots of all six of `o`'s transfers. -/
abbrev barPay (o : Dev nD) : sProp 𝕄 :=
  iprop(lend false 0 o ∗ lend true 0 o ∗ lend false 1 o ∗ lend true 1 o ∗ lend false 2 o ∗ lend true 2 o)

def sitePay (c : Dev nD) : ℕ → sProp 𝕄
  | 0 => fillPay m false c
  | 1 => fillPay m true c
  | 2 => sendPay m false 0 c
  | 3 => sendPay m false 1 c
  | 4 => sendPay m false 2 c
  | 5 => recvPay m false 0 c
  | 6 => recvPay m false 1 c
  | 7 => recvPay m false 2 c
  | 8 => sendPay m true 0 c
  | 9 => sendPay m true 1 c
  | 10 => sendPay m true 2 c
  | 11 => recvPay m true 0 c
  | 12 => recvPay m true 1 c
  | 13 => recvPay m true 2 c
  | _ => iprop(emp)

theorem sitePay_fill (c : Dev nD) (b : Bool) : sitePay m c (fillIx b).val = fillPay m b c := by cases b <;> rfl
theorem sitePay_send (c : Dev nD) (b : Bool) (h : Fin 3) : sitePay m c (sendIx b h).val = sendPay m b h.val c := by
  cases b <;> fin_cases h <;> rfl
theorem sitePay_recv (c : Dev nD) (b : Bool) (h : Fin 3) : sitePay m c (recvIx b h).val = recvPay m b h.val c := by
  cases b <;> fin_cases h <;> rfl

/-! ## The schedule: one round on every cell -/

def semDuties : SemLoc sig → Finset Bool
  | .reg _ => {true, false}
  | .dma k => if k.val < 14 then {true} else ∅
def semAmount : SemLoc sig → ℕ
  | .reg _ => 1
  | .dma _ => N
def semPay (c : Dev nD) (d : Bool) : SemLoc sig → sProp 𝕄
  | .reg _ => if d then barPay c else iprop(emp)
  | .dma k => sitePay m c k.val

def gatherRd : Rounds.Schedule (GSem nD τ sig) Bool 𝕄 where
  duties g r := if r = 0 ∧ g.1.2 = .tc then semDuties g.2 else ∅
  unitless _ := False
  amount g _ _ := semAmount g.2
  payload g _ d := semPay m g.1.1 d g.2
  amount_pos g _ _ _ := by
    cases g.2
    · exact Nat.one_pos
    · exact N_pos

instance gatherRd_payload_storable (g : GSem nD τ sig) (r : ℕ) (d : Bool) :
    BI.Storable (upEmb : UEmb _ 𝕄) ((gatherRd (F := F) m).payload g r d) := by
  show BI.Storable upEmb (semPay m g.1.1 d g.2)
  unfold semPay
  split
  · split <;> infer_instance
  · unfold sitePay
    split <;> infer_instance

section Cells

variable (c : Dev nD)

theorem duties_cell (k : Fin 14) : (gatherRd (F := F) m).duties (cell c k) 0 = {true} := by
  show (if (0 = 0 ∧ (cell c k).1.2 = .tc) then semDuties (osem k) else ∅) = {true}
  rw [if_pos ⟨rfl, rfl⟩]
  exact if_pos k.isLt
theorem duties_bar : (gatherRd (F := F) m).duties (bar c) 0 = {true, false} := by
  show (if (0 = 0 ∧ (bar c).1.2 = .tc) then semDuties (.reg barrier0) else ∅) = {true, false}
  rw [if_pos ⟨rfl, rfl⟩]; rfl
theorem duties_later (g : GSem nD τ sig) : ∀ r, 0 + 1 ≤ r → (gatherRd (F := F) m).duties g r = ∅ :=
  fun r hr => if_neg fun h => absurd h.1 (by omega)

theorem expect_cell (k : Fin 14) : (gatherRd (F := F) m).expect (cell c k) 0 = N := by
  unfold Schedule.expect Schedule.amountOf; rw [duties_cell, Finset.sum_singleton]; rfl
theorem expect_bar : (gatherRd (F := F) m).expect (bar c) 0 = 2 := by
  unfold Schedule.expect Schedule.amountOf; rw [duties_bar]; rfl

theorem rest_cell (k : Fin 14) : bigSep ((gatherRd (F := F) m).duties (cell c k) 0 \ ∅) (fun d => (gatherRd (F := F) m).payload (cell c k) 0 d)
    = sitePay m c k.val := by
  rw [Finset.sdiff_empty, duties_cell, bigSep_singleton]; rfl
theorem rest_bar : bigSep ((gatherRd (F := F) m).duties (bar c) 0 \ ∅) (fun d => (gatherRd (F := F) m).payload (bar c) 0 d)
    = iprop(barPay c ∗ emp) := by
  rw [Finset.sdiff_empty, duties_bar, bigSep_insert (by decide), bigSep_singleton]; rfl

end Cells

/-! ## What a device owes, and the levels -/

abbrev due (c : Dev nD) (s : Bool × Fin 3) : CellTallies nD τ sig Unit := tallyAt (cell (nxt c) (recvIx s.1 s.2)) () N
/-- The transfers a device has still to make, the next first. -/
def dues (c : Dev nD) : List (Bool × Fin 3) → CellTallies nD τ sig Unit
  | [] => 0
  | s :: l => dues c l + due c s
abbrev allHops : List (Bool × Fin 3) := [(false, 0), (true, 0), (false, 1), (true, 1), (false, 2), (true, 2)]
def O₁ (c : Dev nD) : CellTallies nD τ sig Unit := dues c allHops + tallyAt (bar (nxt c)) () 1
def O₀ (c : Dev nD) : CellTallies nD τ sig Unit := O₁ c + tallyAt (bar (prv c)) () 1

def L (g : GSem nD τ sig) : Finset Unit := if g.1.2 = .tc then {()} else ∅
theorem L_of_ne (g : GSem nD τ sig) (h : g.1.2 ≠ .tc) : L g = ∅ := if_neg h
theorem L_tc (g : GSem nD τ sig) (u : Unit) (h : g.1.2 = .tc) : u ∈ L g := by
  unfold L; rw [if_pos h]; exact Finset.mem_singleton_self _

/-- The barrier at 1, hop `h`'s receives at `2 + h`, everything else at 0. -/
def siteLv : ℕ → ℕ
  | 5 | 11 => 2
  | 6 | 12 => 3
  | 7 | 13 => 4
  | _ => 0
def semLv : SemLoc sig → ℕ
  | .reg _ => 1
  | .dma k => siteLv k.val
def lv (g : GSem nD τ sig) (_ : Unit) : ℕ := semLv g.2

theorem lv_fill (c : Dev nD) (b : Bool) : lv (cell c (fillIx b)) () = 0 := by cases b <;> rfl
theorem lv_send (c : Dev nD) (b : Bool) (h : Fin 3) : lv (cell c (sendIx b h)) () = 0 := by cases b <;> fin_cases h <;> rfl
theorem lv_recv (c : Dev nD) (b : Bool) (h : Fin 3) : lv (cell c (recvIx b h)) () = 2 + h.val := by cases b <;> fin_cases h <;> rfl

/-- Everything still owed lies at TensorCore cells of levels above `ℓ`. -/
def Above (ℓ : ℕ) (O : CellTallies nD τ sig Unit) : Prop := ∀ g u, 0 < O g u → g.1.2 = .tc ∧ ℓ < lv g u

theorem above_zero (ℓ : ℕ) : Above ℓ 0 := fun _ _ h => absurd h (Nat.lt_irrefl 0)
theorem above_add {ℓ : ℕ} {O O' : CellTallies nD τ sig Unit} (h : Above ℓ O) (h' : Above ℓ O') : Above ℓ (O + O') := by
  intro g u hg
  rw [Pi.add_apply, Finsupp.add_apply] at hg
  rcases Nat.add_pos_iff_pos_or_pos.mp hg with hg | hg
  · exact h g u hg
  · exact h' g u hg
theorem above_tally {ℓ : ℕ} (g : GSem nD τ sig) (n : ℕ) (hg : g.1.2 = .tc) (h : ℓ < lv g ()) : Above ℓ (tallyAt g () n) := by
  intro g' u hg'
  rw [tallyAt_apply] at hg'
  split at hg'
  · next e => rw [e.1]; exact ⟨hg, h⟩
  · exact absurd hg' (Nat.lt_irrefl 0)
theorem above_dues {ℓ : ℕ} (c : Dev nD) : (l : List (Bool × Fin 3)) → (∀ s ∈ l, ℓ < 2 + s.2.val) → Above ℓ (dues c l)
  | [], _ => above_zero ℓ
  | s :: l, h => above_add (above_dues c l fun t ht => h t (List.mem_cons_of_mem _ ht))
      (above_tally _ _ rfl (by rw [lv_recv]; exact h s List.mem_cons_self))
theorem above_O₀ (c : Dev nD) : Above 0 (O₀ c) :=
  above_add (above_add (above_dues c _ (by decide)) (above_tally _ _ rfl Nat.one_pos)) (above_tally _ _ rfl Nat.one_pos)

theorem mayWait {ℓ : ℕ} (c : Dev nD) (sm : SemLoc sig) (O : CellTallies nD τ sig Unit) (hs : lv ((c : Thread nD τ), sm) () ≤ ℓ) (h : Above ℓ O) :
    (levAts L lv : sProp 𝕄) ⊢ MayWait (c : Thread nD τ) sm () O :=
  MayOwe.of_cut (L := L) (lev := lv) ℓ (fun p hp => by rw [Finset.mem_singleton.mp hp]; exact L_tc _ _ rfl)
    (fun g u hg => L_tc _ _ (h g u hg).1)
    (fun p hp => by rw [Finset.mem_singleton.mp hp]; exact hs)
    (fun g u hg => (h g u hg).2)

/-! ## The records every device may consult -/

theorem osem_inj : Function.Injective osem := by decide
theorem osem_ne_bar (k : Fin 14) : osem k ≠ .reg barrier0 := fun h => by cases h

def barEmb : Dev nD ↪ GSem nD τ sig := ⟨fun c => bar c, fun _ _ h => congrArg (fun g : GSem nD τ sig => g.1.1) h⟩
def scEmb : Dev nD × Fin 14 ↪ GSem nD τ sig :=
  ⟨fun p => cell p.1 p.2, fun _ _ h => Prod.ext (congrArg (fun g : GSem nD τ sig => g.1.1) h) (osem_inj (congrArg Prod.snd h))⟩
abbrev barCells : Finset (GSem nD τ sig) := Finset.univ.map barEmb
abbrev scCells : Finset (GSem nD τ sig) := Finset.univ.map scEmb

theorem bar_mem (c : Dev nD) : bar c ∈ (barCells ∪ scCells : Finset (GSem nD τ sig)) :=
  Finset.mem_union_left _ (Finset.mem_map_of_mem barEmb (Finset.mem_univ c))
theorem cell_mem (c : Dev nD) (k : Fin 14) : cell c k ∈ (barCells ∪ scCells : Finset (GSem nD τ sig)) :=
  Finset.mem_union_right _ (Finset.mem_map_of_mem scEmb (Finset.mem_univ (c, k)))

/-- All the cells' invariants under one map of names, and that every barrier is in its round. -/
def records (κ : GSem nD τ sig → ℕ) : sProp 𝕄 :=
  iprop((bigSep (barCells ∪ scCells) fun g => cellInv ER (gatherRd m) (κ g) g) ∗ bigSep barCells fun g => reached ER g 0)
instance records_persistent (κ : GSem nD τ sig → ℕ) : BI.Persistent (records m κ) := by unfold records; infer_instance

theorem inv_bar (κ : GSem nD τ sig → ℕ) (c : Dev nD) : records m κ ⊢ cellInv ER (gatherRd m) (κ (bar c)) (bar c) := by
  unfold records
  iintro ⟨H, -⟩
  iapply (show (bigSep (barCells ∪ scCells) fun g => (cellInv ER (gatherRd m) (κ g) g : sProp 𝕄)) ⊢ _ from bigSep_elim (bar_mem c)) $$ H
theorem inv_cell (κ : GSem nD τ sig → ℕ) (c : Dev nD) (k : Fin 14) : records m κ ⊢ cellInv ER (gatherRd m) (κ (cell c k)) (cell c k) := by
  unfold records
  iintro ⟨H, -⟩
  iapply (show (bigSep (barCells ∪ scCells) fun g => (cellInv ER (gatherRd m) (κ g) g : sProp 𝕄)) ⊢ _ from bigSep_elim (cell_mem c k)) $$ H
theorem reached_bar (κ : GSem nD τ sig → ℕ) (c : Dev nD) : records m κ ⊢ reached ER (bar c) 0 := by
  unfold records
  iintro ⟨-, H⟩
  iapply (show (bigSep barCells fun g => (reached ER g 0 : sProp 𝕄)) ⊢ reached ER (bar c) 0 from
    bigSep_elim (Finset.mem_map_of_mem barEmb (Finset.mem_univ c))) $$ H

theorem close (κ : ℕ) (g : GSem nD τ sig) :
    iprop(cellInv ER (gatherRd m) κ g ∗ atPos ER g (0 + 1) ∅ 0) ⊢ (|={Set.univ}=> semVal g 0 : sProp 𝕄) :=
  Rounds.cell_close ER (gatherRd m) (Set.mem_univ κ) id (duties_later m g)

/-- That the own fourteen cells are open, in their round. -/
def opens (c : Dev nD) : sProp 𝕄 := bigSep Finset.univ fun k : Fin 14 => reached ER (cell c k) 0
instance opens_persistent (c : Dev nD) : BI.Persistent (opens (F := F) c) := by unfold opens; infer_instance
theorem open_cell (c : Dev nD) (k : Fin 14) : (opens (F := F) c) ⊢ reached ER (cell c k) 0 := by
  unfold opens
  exact bigSep_elim (Finset.mem_univ k)

/-- What a device owes, under some record of its waits. -/
def owing (c : Dev nD) (O : CellTallies nD τ sig Unit) : sProp 𝕄 := iprop(∃ W, owes (c : Thread nD τ) O W)

end Cert.KernelIdeal.Attn

end
-- ==== Proof.Steps.lean ====
/- One lemma per kind of step of the gather: a barrier signal, the barrier wait, a local copy, a hop's transfer, a wait for a
   transfer. Each is stated for whatever memref, semaphore or device the program names, with an equation saying which it is. -/
module

public import proofs.«01_k».proof.Proof.Sched

@[expose] public section

noncomputable section

namespace Cert.KernelIdeal.Attn

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Facts₀ Cert.KernelIdeal.Facts

variable {F : FTy → Type} [FloatOps F]

local notation "𝕄" => MT nD τ sig Unit (Elt F) ℕ UU ℕ

variable (m : (ℓ : Loc nD τ sig) → Buf (Elt F) ℓ)

variable (κ : GSem nD τ sig → ℕ) (c : Dev nD)

/-- A kernel's remaining program on a device's TensorCore. -/
abbrev runs {α : Type} (p : Prog (TpuEff nD τ sig (Elt F) Λ₀ .tc) α) (Q : α → sProp (MT nD τ sig Unit (Elt F) ℕ UU ℕ)) :
    sProp (MT nD τ sig Unit (Elt F) ℕ UU ℕ) :=
  wp frame (wpE (defs₀ (F := F)) 𝒱₀ (c : Thread nD τ) none) Set.univ p Q

/-- The slot a hop works at. -/
theorem hop_slot (b : Bool) (h : Fin 3) :
    (bM b).slice (Rect.unit (s := S4x4x256x16x64) (k0_off2 c (BitVec.ofNat 32 h.val)) S1x4x256x16x64.size (k0_off2_inb c h)) (fun _ => rfl)
      = slotM b (back c h.val) := by
  unfold slotM
  congr 1
  exact Rect.unit_congr (Gen.k0_off2_eq c h) _ _

/-- The slot the own block is copied to. -/
theorem own_slot (b : Bool) :
    ((bM b).slice (Rect.unit (s := S4x4x256x16x64) (k0_off1 c) S1x4x256x16x64.size (k0_off1_inb c)) (fun _ => rfl)).squeeze S4x256x16x64
        squeezes_S1x4x256x16x64_S4x256x16x64
      = slotQ b c := by
  unfold slotQ slotM
  congr 2
  exact Rect.unit_congr (Gen.k0_off1_eq c) _ _

/-! ## The barrier -/

variable {α : Type} {Q : α → sProp (MT nD τ sig Unit (Elt F) ℕ UU ℕ)} {k : PUnit → Prog (TpuEff nD τ sig (Elt F) Λ₀ .tc) α}

/-- A barrier signal to device `d`, paying duty `e` there. -/
theorem signal_step {n : Dev nD} {sem : Sem sig} (d : Dev nD) (e : Bool) (hn : n = d) (hsem : sem = barrier0)
    {O₀ : CellTallies nD τ sig Unit} (O : CellTallies nD τ sig Unit) (hO : O₀ = O + tallyAt (bar d) () 1) :
    iprop(records m κ ∗ owing c O₀ ∗ dutyTok ER (bar d) 0 e ∗ (if e then barPay d else iprop(emp)))
      ⊢ iprop((owing c O -∗ runs c (k ⟨⟩) Q) -∗ runs c (.op (.semSignal (Dev.tc n : Thread nD τ) sem 1) k) Q) := by
  subst hn hsem
  unfold owing
  iintro ⟨#HR, ⟨%W, HO⟩, Ht, Hp⟩ Hk
  iapply (Rounds.wp_signal 𝒱₀ ER (gatherRd m) (c : Thread nD τ) none (dst := (n : Thread nD τ)) (sem := barrier0) (r := 0) (d := e) (κ := κ (bar n))
      (by rw [duties_bar]; cases e <;> decide) rfl () O hO) $$ [HO Ht Hp]
  · isplitr; · iapply (inv_bar m κ n); iexact HR
    isplitl [HO]; · iexact HO
    isplitl [Ht]; · iexact Ht
    isplitl [Hp]; · iapply (show (if e then barPay n else iprop(emp)) ⊢ (gatherRd m).payload (bar n) 0 e from BI.Entails.refl _) $$ Hp
    iapply (reached_bar m κ n); iexact HR
  iintro HO
  iapply Hk
  iexists W; iexact HO

/-- The barrier wait: the next device's slots come with its unit; the barrier's counter is back. -/
theorem barrier_step {sem : Sem sig} (hsem : sem = barrier0) (O : CellTallies nD τ sig Unit) (hO : Above 1 O) :
    iprop(records m κ ∗ levAts L lv ∗ cred (tallyAt (bar c) () 2) ∗ owing c O ∗ atPos ER (bar c) 0 ∅ 0)
      ⊢ iprop((iprop(owing c O ∗ semVal (bar c) 0 ∗ barPay c) -∗ runs c (k ⟨⟩) Q) -∗ runs c (.op (.semWait sem 2) k) Q) := by
  subst hsem
  unfold owing
  iintro ⟨#HR, #Hlev, Hc, ⟨%W, HO⟩, Hat⟩ Hk
  iapply (Rounds.wp_wait_rest_token 𝒱₀ ER (gatherRd m) (c : Thread nD τ) none (κ := κ (bar c))
      (wpE_semWait_eq 𝒱₀ (c : Thread nD τ) none Set.univ) (Set.mem_univ _) () (O := O) (W := W) (R := 0) (m := 0) (T := ∅)
      ((Nat.zero_add 2).trans (expect_bar m c).symm)) $$ [Hc HO Hat]
  · isplitr; · iapply (inv_bar m κ c); iexact HR
    isplitl [Hc]; · iexact Hc
    isplitl [HO]; · iexact HO
    isplitr; · iapply (mayWait (ℓ := 1) c (.reg barrier0) O le_rfl hO); iexact Hlev
    iexact Hat
  iintro ⟨HO, Hat, -, Hpay⟩
  ihave Hp := (Entails.of_eq (rest_bar m c)) $$ Hpay
  icases Hp with ⟨Hp, -⟩
  imod (close m (κ (bar c)) (bar c)) $$ [Hat] with H0
  · isplitr; · iapply (inv_bar m κ c); iexact HR
    iexact Hat
  iapply Hk
  isplitl [HO]; · iexists _; iexact HO
  isplitl [H0]; · iexact H0
  iexact Hp

/-! ## The transfers -/

/-- The own block copied into the own slot. -/
theorem fill_step (b : Bool) {src dst : Memref sig .tc .hbm S4x256x16x64 .f32} {sem : DmaSem sig}
    (hsrc : src = xM b) (hdst : dst = slotQ b c) (hsem : sem = dsem (fillIx b)) (f : (bM b).view.ty.Contents (Elt F))
    {w₁ : src.view.WordExact} {w₂ : dst.view.WordExact} {ht : (DmaTarget.here dst : DmaTarget nD τ sig .tc .hbm S4x256x16x64 .f32).Typed .hbm (.dma sem)} :
    iprop(records m κ ∗ opens c ∗ xPts m b c ∗ slotPts b c c f ∗ dutyTok ER (cell c (fillIx b)) 0 true)
      ⊢ iprop((cred (tallyAt (cell c (fillIx b)) () N) -∗ runs c (k ⟨⟩) Q)
          -∗ runs c (.op (.enqueueDma src (.here dst) (.dma sem) w₁ w₂ ht) k) Q) := by
  subst hsrc hdst hsem
  iintro ⟨#HR, #Ho, Hx, Hs, Ht⟩ Hk
  iapply (Rounds.wp_copy_pointsTo 𝒱₀ ER (gatherRd m) (c : Thread nD τ) none (src := xM b) (dst := slotQ b c) (sem := osem (fillIx b)) (q := fullShare)
      (fs := own m b c) (fd := f) (r := 0) (d := true) (κ := κ (cell c (fillIx b)))
      (by rw [duties_cell]; exact Finset.mem_singleton_self _) () N (credit_slotQ b c) rfl
      (by
        show _ ⊢ sitePay m c (fillIx b).val
        rw [sitePay_fill, set_slotQ]
        exact sep_mono_left (Entails.of_eq (pointsTo_congr (filled_on m b c f))))) $$ [Hx Hs Ht]
  · isplitr; · iapply (inv_cell m κ c (fillIx b)); iexact HR
    isplitl [Hx]; · iexact Hx
    isplitl [Hs]; · rw [set_slotQ]; iexact Hs
    isplitl [Ht]; · iexact Ht
    iapply (open_cell c (fillIx b)); iexact Ho
  iexact Hk

/-- A hop: the own slot to the same slot of the next device. -/
theorem hop_step (b : Bool) (h : Fin 3) (l : List (Bool × Fin 3)) {n : Dev nD} {src : Memref sig .tc .hbm S1x4x256x16x64 .f32}
    {dst : Memref sig (Dev.tc n : Thread nD τ).2.kind .hbm S1x4x256x16x64 .f32} {sS sR : DmaSem sig}
    (hn : n = nxt c) (hsrc : src = slotM b (back c h.val)) (hdst : dst = slotM b (back c h.val))
    (hS : sS = dsem (sendIx b h)) (hR : sR = dsem (recvIx b h))
    {hsc : dst.view.ref.isScScratch = false} {w₁ : src.view.WordExact} {w₂ : dst.view.WordExact}
    {ht : DmaTarget.Typed .hbm (.dma sR) (.remote (Dev.tc n : Thread nD τ) dst (.dma sS) hsc)} :
    iprop(records m κ ∗ opens c ∗ slotPts b c (back c h.val) (gath m b) ∗ lend b h c ∗ owing c (dues c ((b, h) :: l))
        ∗ dutyTok ER (cell c (sendIx b h)) 0 true ∗ dutyTok ER (cell (nxt c) (recvIx b h)) 0 true)
      ⊢ iprop((iprop(cred (tallyAt (cell c (sendIx b h)) () N) ∗ owing c (dues c l)) -∗ runs c (k ⟨⟩) Q)
          -∗ runs c (.op (.enqueueDma src (.remote (Dev.tc n : Thread nD τ) dst (.dma sS) hsc) (.dma sR) w₁ w₂ ht) k) Q) := by
  subst hn hsrc hdst hS hR
  unfold owing
  iintro ⟨#HR, #Ho, Hs, ⟨⟨%f, Hd⟩, #Hr⟩, ⟨%W, HO⟩, Ht₁, Ht₂⟩ Hk
  iapply (Rounds.wp_send_pointsTo 𝒱₀ ER (gatherRd m) (c : Thread nD τ) none (c' := (nxt c : Thread nD τ)) (src := slotM b (back c h.val))
      (dst := slotM b (back c h.val)) (sS := osem (sendIx b h)) (sem := osem (recvIx b h)) (q := fullShare) (fs := gath m b)
      (κ₁ := κ (cell c (sendIx b h))) (κ₂ := κ (cell (nxt c) (recvIx b h))) (r₁ := 0) (r₂ := 0) (d₁ := true) (d₂ := true) (fd := f)
      (by rw [duties_cell]; exact Finset.mem_singleton_self _) (by rw [duties_cell]; exact Finset.mem_singleton_self _)
      () () N (credit_slot b _) rfl rfl (dues c l) rfl (W := W)
      (by
        show _ ⊢ sitePay m c (sendIx b h).val
        rw [sitePay_send])
      (by
        show _ ⊢ sitePay m (nxt c) (recvIx b h).val
        rw [sitePay_recv]
        show _ ⊢ slotPts b (nxt c) (back (nxt c) (h.val + 1)) (gath m b)
        rw [back_nxt]
        exact Entails.of_eq (pointsTo_congr (write_read_on (slotM b (back c h.val)).view f (gath m b))))) $$ [Hs Hd HO Ht₁ Ht₂]
  · isplitr; · iapply (inv_cell m κ c (sendIx b h)); iexact HR
    isplitr; · iapply (inv_cell m κ (nxt c) (recvIx b h)); iexact HR
    isplitl [Hs]; · iexact Hs
    isplitl [Hd]; · iexact Hd
    isplitl [HO]; · iexact HO
    isplitl [Ht₁]; · iexact Ht₁
    isplitr; · iapply (open_cell c (sendIx b h)); iexact Ho
    isplitl [Ht₂]; · iexact Ht₂
    iexact Hr
  iintro ⟨Hc, HO⟩
  iapply Hk
  isplitl [Hc]; · iexact Hc
  iexists W; iexact HO

/-- A wait for one of the own transfers: what it hands over, and its counter back at zero. -/
theorem wait_step (i : Fin 14) (P : sProp 𝕄) (hP : sitePay m c i.val = P) {ℓ : ℕ} (hℓ : lv (cell c i) () ≤ ℓ)
    (O : CellTallies nD τ sig Unit) (hO : Above ℓ O)
    {sem : DmaSem sig} (hsem : sem = dsem i) {s s' : Shape} {e e' : EltTy} {src : Memref sig .tc .hbm s' e'} {dst : Memref sig .tc .hbm s e}
    (hN : dst.view.dmaCredit = N) {w₁ : src.view.WordExact} {w₂ : dst.view.WordExact} :
    iprop(records m κ ∗ levAts L lv ∗ cred (tallyAt (cell c i) () N) ∗ owing c O ∗ atPos ER (cell c i) 0 ∅ 0)
      ⊢ iprop((iprop(owing c O ∗ semVal (cell c i) 0 ∗ P) -∗ runs c (k ⟨⟩) Q) -∗ runs c (.op (.waitDma2 sem src dst w₁ w₂) k) Q) := by
  subst hsem
  unfold owing
  iintro ⟨#HR, #Hlev, Hc, ⟨%W, HO⟩, Hat⟩ Hk
  iapply (Rounds.wp_wait_rest_token 𝒱₀ ER (gatherRd m) (c : Thread nD τ) none (κ := κ (cell c i))
      (wpE_waitDma2_eq (src := src) (dst := dst) 𝒱₀ (c : Thread nD τ) none Set.univ) (Set.mem_univ _) () (O := O) (W := W) (R := 0) (m := 0) (T := ∅)
      ((Nat.zero_add _).trans (hN.trans (expect_cell m c i).symm))) $$ [Hc HO Hat]
  · isplitr; · iapply (inv_cell m κ c i); iexact HR
    isplitl [Hc]; · rw [hN]; iexact Hc
    isplitl [HO]; · iexact HO
    isplitr; · iapply (mayWait (ℓ := ℓ) c (osem i) O hℓ hO); iexact Hlev
    iexact Hat
  iintro ⟨HO, Hat, -, Hpay⟩
  ihave Hp := (Entails.of_eq ((rest_cell m c i).trans hP)) $$ Hpay
  imod (close m (κ (cell c i)) (cell c i)) $$ [Hat] with H0
  · isplitr; · iapply (inv_cell m κ c i); iexact HR
    iexact Hat
  iapply Hk
  isplitl [HO]; · iexists _; iexact HO
  isplitl [H0]; · iexact H0
  iexact Hp

end Cert.KernelIdeal.Attn

end
-- ==== Proof.Gather.lean ====
/- The gather on one device: a buffer as its four slots, and the whole run from what the launch gives the device to every
   block gathered and every counter back at zero. -/
module

public import proofs.«01_k».proof.Proof.Steps

@[expose] public section

noncomputable section

namespace Cert.KernelIdeal.Attn

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Facts₀ Cert.KernelIdeal.Facts

variable {F : FTy → Type} [FloatOps F]

local notation "𝕄" => MT nD τ sig Unit (Elt F) ℕ UU ℕ

variable (m : (ℓ : Loc nD τ sig) → Buf (Elt F) ℓ)

variable (c : Dev nD)

/-! ## A buffer as its slots -/

theorem mem_slotR (o : Dev nD) (i : S4x4x256x16x64.Idx) : i ∈ (slotR o).set ↔ (i 0).val = o.val := by
  rw [Rect.mem_set_unit]
  constructor
  · intro h
    have h0 : o.val ≤ (i 0).val ∧ (i 0).val < o.val + 1 := h 0
    omega
  · intro h a
    have hb : (i a).val < S4x4x256x16x64.size a := (i a).isLt
    fin_cases a
    · show o.val ≤ (i 0).val ∧ (i 0).val < o.val + 1
      omega
    all_goals exact ⟨Nat.zero_le _, (Nat.zero_add _).symm ▸ hb⟩

theorem slot_disjoint (b : Bool) (o o' : Dev nD) (h : o ≠ o') : Disjoint (slotM b o).view.set (slotM b o').view.set := by
  rw [View.set_slice, View.set_slice, Finset.disjoint_map, Finset.disjoint_left]
  intro i hi hi'
  exact h (Fin.ext (((mem_slotR o i).mp hi).symm.trans ((mem_slotR o' i).mp hi')))

theorem slot_cover (b : Bool) : Finset.biUnion (α := Dev nD) (β := (bM b).view.ty.Idx) Finset.univ (fun o => (slotM b o).view.set) = Finset.univ := by
  have hw : (bM b).view.set = Finset.univ := by cases b <;> exact View.set_whole _
  refine Finset.eq_univ_iff_forall.mpr fun i => ?_
  obtain ⟨x, -, rfl⟩ := Finset.mem_map.mp (hw ▸ Finset.mem_univ i)
  refine Finset.mem_biUnion.mpr ⟨⟨(x 0).val, (x 0).isLt⟩, Finset.mem_univ _, ?_⟩
  rw [View.set_slice]
  exact Finset.mem_map_of_mem _ ((mem_slotR _ x).mpr rfl)

/-- A gathered buffer whole. -/
abbrev bPts (b : Bool) (f : (bM b).view.ty.Contents (Elt F)) : sProp 𝕄 := (bM b).view.loc (c : Thread nD τ) ↦{fullShare} f

/-- The four devices, going back round the ring from one of them. -/
theorem bigSep_back (Φ : Dev nD → sProp 𝕄) :
    bigSep Finset.univ Φ = iprop(Φ (back c 0) ∗ Φ (back c 1) ∗ Φ (back c 2) ∗ Φ (back c 3)) :=
  bigSep_univ_eq_bigSepL [back c 0, back c 1, back c 2, back c 3] (by revert c; decide) (by revert c; decide) Φ

theorem bPts_slots (b : Bool) (f : (bM b).view.ty.Contents (Elt F)) :
    bPts c b f = iprop(slotPts b c (back c 0) f ∗ slotPts b c (back c 1) f ∗ slotPts b c (back c 2) f ∗ slotPts b c (back c 3) f) :=
  (Ring.pointsTo_blocks (ℓ := (bM b).view.loc (c : Thread nD τ)) (fun o => (slotM b o).view.set) (slot_disjoint b) (slot_cover b) f).trans (bigSep_back c _)

/-- What a device lends the one before it: for each of that one's transfers the slot it fills here. -/
theorem lend_intro (b : Bool) (h : Fin 3) (f : (bM b).view.ty.Contents (Elt F)) :
    iprop(slotPts b c (back c (h.val + 1)) f ∗ opens c) ⊢ lend b h (prv c) := by
  obtain ⟨p, rfl⟩ : ∃ p, c = nxt p := ⟨prv c, (nxt_prv c).symm⟩
  rw [prv_nxt, back_nxt]
  iintro ⟨Hs, #Ho⟩
  isplitl [Hs]
  · iexists f; iexact Hs
  iapply (open_cell (nxt p) (recvIx b h)); iexact Ho

theorem barPay_intro (fK : (bM false).view.ty.Contents (Elt F)) (fV : (bM true).view.ty.Contents (Elt F)) :
    iprop(opens c ∗ (slotPts false c (back c 1) fK ∗ slotPts false c (back c 2) fK ∗ slotPts false c (back c 3) fK)
        ∗ (slotPts true c (back c 1) fV ∗ slotPts true c (back c 2) fV ∗ slotPts true c (back c 3) fV)) ⊢ barPay (prv c) := by
  iintro ⟨#Ho, ⟨K1, K2, K3⟩, ⟨V1, V2, V3⟩⟩
  isplitl [K1]
  · iapply (lend_intro c false 0 fK); iframe K1 Ho
  isplitl [V1]
  · iapply (lend_intro c true 0 fV); iframe V1 Ho
  isplitl [K2]
  · iapply (lend_intro c false 1 fK); iframe K2 Ho
  isplitl [V2]
  · iapply (lend_intro c true 1 fV); iframe V2 Ho
  isplitl [K3]
  · iapply (lend_intro c false 2 fK); iframe K3 Ho
  iapply (lend_intro c true 2 fV); iframe V3 Ho

/-! ## One hop, both buffers -/

/-- What a device needs for its transfer of buffer `b` at hop `h`, the slots and the slot lent to it apart. -/
abbrev hopIn (b : Bool) (h : Fin 3) : sProp 𝕄 :=
  iprop((atPos ER (cell c (sendIx b h)) 0 ∅ 0 ∗ atPos ER (cell c (recvIx b h)) 0 ∅ 0) ∗ dutyTok ER (cell c (sendIx b h)) 0 true
    ∗ dutyTok ER (cell (nxt c) (recvIx b h)) 0 true ∗ cred (tallyAt (cell c (recvIx b h)) () N))
/-- What it has of it afterwards. -/
abbrev hopOut (b : Bool) (h : Fin 3) : sProp 𝕄 :=
  iprop(semVal (cell c (sendIx b h)) 0 ∗ semVal (cell c (recvIx b h)) 0)

variable (κ : GSem nD τ sig → ℕ)
variable {α : Type} {Q : α → sProp (MT nD τ sig Unit (Elt F) ℕ UU ℕ)} {k : PUnit → Prog (TpuEff nD τ sig (Elt F) Λ₀ .tc) α}

/-- Both transfers of hop `h` started, then waited for: the slots sent are back, the next ones have come. -/
theorem hop_round (h : Fin 3) (l : List (Bool × Fin 3)) (hl : ∀ s ∈ l, h.val < s.2.val) {n n' : Dev nD} {mK mV : Memref sig .tc .hbm S1x4x256x16x64 .f32}
    {sK rK sV rV : DmaSem sig} (hn : n = nxt c) (hn' : n' = nxt c) (hmK : mK = slotM false (back c h.val)) (hmV : mV = slotM true (back c h.val))
    (hsK : sK = dsem (sendIx false h)) (hrK : rK = dsem (recvIx false h)) (hsV : sV = dsem (sendIx true h)) (hrV : rV = dsem (recvIx true h))
    {c₁ : mK.view.ref.isScScratch = false} {c₂ : mV.view.ref.isScScratch = false} {w₁ w₂ w₅ w₆ w₇ w₈ : mK.view.WordExact}
    {w₃ w₄ w₉ w₁₀ w₁₁ w₁₂ : mV.view.WordExact}
    {t₁ : DmaTarget.Typed .hbm (.dma rK) (.remote (Dev.tc n : Thread nD τ) mK (.dma sK) c₁)}
    {t₂ : DmaTarget.Typed .hbm (.dma rV) (.remote (Dev.tc n' : Thread nD τ) mV (.dma sV) c₂)} :
    iprop(records m κ ∗ levAts L lv ∗ opens c ∗ (slotPts false c (back c h.val) (gath m false) ∗ slotPts true c (back c h.val) (gath m true))
        ∗ (lend false h c ∗ lend true h c) ∗ (hopIn c false h ∗ hopIn c true h) ∗ owing c (dues c ((false, h) :: (true, h) :: l)))
      ⊢ iprop((iprop((slotPts false c (back c h.val) (gath m false) ∗ slotPts true c (back c h.val) (gath m true))
            ∗ (slotPts false c (back c (h.val + 1)) (gath m false) ∗ slotPts true c (back c (h.val + 1)) (gath m true))
            ∗ (hopOut c false h ∗ hopOut c true h) ∗ owing c (dues c l)) -∗ runs c (k ⟨⟩) Q)
          -∗ runs c (.op (.enqueueDma mK (.remote (Dev.tc n : Thread nD τ) mK (.dma sK) c₁) (.dma rK) w₁ w₂ t₁) fun _ =>
              .op (.enqueueDma mV (.remote (Dev.tc n' : Thread nD τ) mV (.dma sV) c₂) (.dma rV) w₃ w₄ t₂) fun _ =>
              .op (.waitDma2 sK mK mK w₅ w₆) fun _ => .op (.waitDma2 rK mK mK w₇ w₈) fun _ =>
              .op (.waitDma2 sV mV mV w₉ w₁₀) fun _ => .op (.waitDma2 rV mV mV w₁₁ w₁₂) k) Q) := by
  have h0 : Above 0 (dues c l) := above_dues c l fun s _ => by omega
  have h2 : Above (2 + h.val) (dues c l) := above_dues c l fun s hs => Nat.add_lt_add_left (hl s hs) 2
  have hcK : mK.view.dmaCredit = N := hmK ▸ credit_slot false _
  have hcV : mV.view.dmaCredit = N := hmV ▸ credit_slot true _
  iintro ⟨#HR, #Hlev, #Ho, ⟨PK, PV⟩, ⟨LK, LV⟩, ⟨⟨⟨AsK, ArK⟩, TsK, TrK, CrK⟩, ⟨⟨AsV, ArV⟩, TsV, TrV, CrV⟩⟩, HO⟩ Hk
  iapply (hop_step m κ c false h ((true, h) :: l) hn hmK hmK hsK hrK) $$ [PK LK HO TsK TrK]
  · iframe HR Ho PK LK HO TsK TrK
  iintro ⟨CsK, HO⟩
  iapply (hop_step m κ c true h l hn' hmV hmV hsV hrV) $$ [PV LV HO TsV TrV]
  · iframe HR Ho PV LV HO TsV TrV
  iintro ⟨CsV, HO⟩
  iapply (wait_step m κ c (sendIx false h) _ (sitePay_send m c false h) (lv_send c false h).le (dues c l) h0 hsK hcK) $$ [CsK HO AsK]
  · iframe HR Hlev CsK HO AsK
  iintro ⟨HO, ZsK, PK⟩
  iapply (wait_step m κ c (recvIx false h) _ (sitePay_recv m c false h) (lv_recv c false h).le (dues c l) h2 hrK hcK) $$ [CrK HO ArK]
  · iframe HR Hlev CrK HO ArK
  iintro ⟨HO, ZrK, NK⟩
  iapply (wait_step m κ c (sendIx true h) _ (sitePay_send m c true h) (lv_send c true h).le (dues c l) h0 hsV hcV) $$ [CsV HO AsV]
  · iframe HR Hlev CsV HO AsV
  iintro ⟨HO, ZsV, PV⟩
  iapply (wait_step m κ c (recvIx true h) _ (sitePay_recv m c true h) (lv_recv c true h).le (dues c l) h2 hrV hcV) $$ [CrV HO ArV]
  · iframe HR Hlev CrV HO ArV
  iintro ⟨HO, ZrV, NV⟩
  iapply Hk
  iframe PK PV NK NV ZsK ZrK ZsV ZrV HO

end Cert.KernelIdeal.Attn

end
-- ==== Proof.Run.lean ====
/- The gather's whole run on one device: from what the launch gives it to every device's block in its slot of both gathered
   buffers and every counter back at zero. -/
module

public import proofs.«01_k».proof.Proof.Gather

@[expose] public section

noncomputable section

namespace Cert.KernelIdeal.Attn

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Facts₀ Cert.KernelIdeal.Facts

variable {F : FTy → Type} [FloatOps F]

local notation "𝕄" => MT nD τ sig Unit (Elt F) ℕ UU ℕ

variable (m : (ℓ : Loc nD τ sig) → Buf (Elt F) ℓ)

variable (κ : GSem nD τ sig → ℕ) (c : Dev nD)

theorem bigSep_sites (Φ : Fin 14 → sProp 𝕄) :
    bigSep Finset.univ Φ = iprop(Φ (fillIx false) ∗ Φ (fillIx true)
      ∗ Φ (sendIx false 0) ∗ Φ (recvIx false 0) ∗ Φ (sendIx true 0) ∗ Φ (recvIx true 0)
      ∗ Φ (sendIx false 1) ∗ Φ (recvIx false 1) ∗ Φ (sendIx true 1) ∗ Φ (recvIx true 1)
      ∗ Φ (sendIx false 2) ∗ Φ (recvIx false 2) ∗ Φ (sendIx true 2) ∗ Φ (recvIx true 2)) :=
  bigSep_univ_eq_bigSepL [fillIx false, fillIx true,
    sendIx false 0, recvIx false 0, sendIx true 0, recvIx true 0,
    sendIx false 1, recvIx false 1, sendIx true 1, recvIx true 1,
    sendIx false 2, recvIx false 2, sendIx true 2, recvIx true 2] (by decide) (by decide) Φ
theorem bigSep_hops (Φ : Bool × Fin 3 → sProp 𝕄) :
    bigSep Finset.univ Φ = iprop(Φ (false, 0) ∗ Φ (true, 0) ∗ Φ (false, 1) ∗ Φ (true, 1) ∗ Φ (false, 2) ∗ Φ (true, 2)) :=
  bigSep_univ_eq_bigSepL allHops (by decide) (by decide) Φ

theorem slotPts_zero (b : Bool) (f : (bM b).view.ty.Contents (Elt F)) : slotPts b c c f = slotPts b c (back c 0) f := by
  rw [back_zero]

/-- What a device starts the gather with. -/
def gatherPre : sProp 𝕄 :=
  iprop(records m κ ∗ levAts L lv ∗ opens c
    ∗ ((bigSep Finset.univ fun k : Fin 14 => atPos ER (cell c k) 0 ∅ 0) ∗ atPos ER (bar c) 0 ∅ 0)
    ∗ ((bigSep Finset.univ fun k : Fin 14 => dutyTok ER (cell (dest c k) k) 0 true) ∗ dutyTok ER (bar (nxt c)) 0 false
        ∗ dutyTok ER (bar (prv c)) 0 true)
    ∗ (cred (tallyAt (bar c) () 2) ∗ bigSep Finset.univ fun s : Bool × Fin 3 => cred (tallyAt (cell c (recvIx s.1 s.2)) () N))
    ∗ (xPts m false c ∗ xPts m true c) ∗ ((∃ f, bPts c false f) ∗ ∃ f, bPts c true f) ∗ owing c (O₀ c))

/-- What it ends it with. -/
def gatherPost : sProp 𝕄 :=
  iprop((semVal (bar c) 0 ∗ bigSep Finset.univ fun k : Fin 14 => semVal (cell c k) 0)
    ∗ (xPts m false c ∗ xPts m true c) ∗ (bPts c false (gath m false) ∗ bPts c true (gath m true)) ∗ owing c 0)

set_option maxHeartbeats 4000000 in
theorem gather_run :
    gatherPre m κ c ⊢ runs c (Gen.bodyAt0 ⟨0, by decide⟩) fun _ => gatherPost m c := by
  unfold gatherPre gatherPost
  iintro ⟨#HR, #Hlev, #Ho, ⟨HA, Abar⟩, ⟨HT, TN, TP⟩, ⟨Cbar, HC⟩, ⟨XK, XV⟩, ⟨⟨%fK, BK⟩, ⟨%fV, BV⟩⟩, HO⟩
  ihave HA := (Entails.of_eq (bigSep_sites fun k => atPos ER (cell c k) 0 ∅ 0)) $$ HA
  icases HA with ⟨A0, A1, AsK0, ArK0, AsV0, ArV0, AsK1, ArK1, AsV1, ArV1, AsK2, ArK2, AsV2, ArV2⟩
  ihave HT := (Entails.of_eq (bigSep_sites fun k => dutyTok ER (cell (dest c k) k) 0 true)) $$ HT
  simp only [dest_fill, dest_send, dest_recv]
  icases HT with ⟨T0, T1, TsK0, TrK0, TsV0, TrV0, TsK1, TrK1, TsV1, TrV1, TsK2, TrK2, TsV2, TrV2⟩
  ihave HC := (Entails.of_eq (bigSep_hops fun s => cred (tallyAt (cell c (recvIx s.1 s.2)) () N))) $$ HC
  icases HC with ⟨CK0, CV0, CK1, CV1, CK2, CV2⟩
  ihave BK := (Entails.of_eq (bPts_slots c false fK)) $$ BK
  icases BK with ⟨K0, K1, K2, K3⟩
  ihave BV := (Entails.of_eq (bPts_slots c true fV)) $$ BV
  icases BV with ⟨V0, V1, V2, V3⟩
  unfold Gen.bodyAt0
  rw [Gen.cc0_body_eq_skeleton]
  unfold Gen.cc0_body_skel
  rw [Gen.k0_part1_eq_skeleton, Gen.k0_part2_eq_skeleton, Gen.k0_part3_eq_skeleton, Gen.k0_part4_eq_skeleton, Gen.k0_part5_eq_skeleton,
    Gen.k0_part6_eq_skeleton, Gen.k0_part7_eq_skeleton]
  unfold Gen.k0_part1_skel Gen.k0_part2_skel Gen.k0_part3_skel Gen.k0_part4_skel Gen.k0_part5_skel Gen.k0_part6_skel Gen.k0_part7_skel
  simp only [semSignalWord, semWaitWord, Prog.lift, Prog.bind_op, Prog.bind_ret, Prog.pure_eq_ret, wp_deviceId]
  iapply (fill_step m κ c false rfl (own_slot c false) rfl fK) $$ [XK K0 T0]
  · iframe HR Ho XK T0; rw [back_zero]; iexact K0
  iintro C0
  iapply (fill_step m κ c true rfl (own_slot c true) rfl fV) $$ [XV V0 T1]
  · iframe HR Ho XV T1; rw [back_zero]; iexact V0
  iintro C1
  iapply (wait_step m κ c (fillIx false) _ (sitePay_fill m c false) (lv_fill c false).le (O₀ c) (above_O₀ c) rfl
    ((congrArg (fun M => M.view.dmaCredit) (own_slot c false)).trans (credit_slotQ false c))) $$ [C0 HO A0]
  · iframe HR Hlev C0 HO A0
  iintro ⟨HO, Z0, ⟨K0, XK⟩⟩
  iapply (wait_step m κ c (fillIx true) _ (sitePay_fill m c true) (lv_fill c true).le (O₀ c) (above_O₀ c) rfl
    ((congrArg (fun M => M.view.dmaCredit) (own_slot c true)).trans (credit_slotQ true c))) $$ [C1 HO A1]
  · iframe HR Hlev C1 HO A1
  iintro ⟨HO, Z1, ⟨V0, XV⟩⟩
  iapply (signal_step m κ c (prv c) true (Fin.ext (Gen.k0_dev1_eq c)) rfl (O₁ c) rfl) $$ [HO TP K1 K2 K3 V1 V2 V3]
  · iframe HR HO TP
    iapply (show barPay (prv c) ⊢ (if true then barPay (prv c) else iprop(emp) : sProp 𝕄) from BI.Entails.refl _)
    iapply (barPay_intro c fK fV); iframe Ho K1 K2 K3 V1 V2 V3
  iintro HO
  iapply (signal_step m κ c (nxt c) false (Fin.ext (Gen.k0_dev2_eq c)) rfl (dues c allHops) rfl) $$ [HO TN]
  · iframe HR HO TN
    iempintro
  iintro HO
  iapply (barrier_step m κ c rfl (dues c allHops) (above_dues c _ (by decide))) $$ [Cbar HO Abar]
  · iframe HR Hlev Cbar HO Abar
  iintro ⟨HO, Zbar, ⟨LK0, LV0, LK1, LV1, LK2, LV2⟩⟩
  ihave K0 := (Entails.of_eq (slotPts_zero c false (gath m false))) $$ K0
  ihave V0 := (Entails.of_eq (slotPts_zero c true (gath m true))) $$ V0
  iapply (hop_round m c κ 0 [(false, 1), (true, 1), (false, 2), (true, 2)] (by decide) (Fin.ext (Gen.k0_dev3_eq c)) (Fin.ext (Gen.k0_dev4_eq c)) (hop_slot c false 0) (hop_slot c true 0)
    rfl rfl rfl rfl) $$ [K0 V0 LK0 LV0 HO AsK0 AsV0 ArK0 ArV0 TsK0 TsV0 TrK0 TrV0 CK0 CV0]
  · iframe HR Hlev Ho K0 V0 LK0 LV0 HO AsK0 AsV0 ArK0 ArV0 TsK0 TsV0 TrK0 TrV0 CK0 CV0
  iintro ⟨⟨K0, V0⟩, ⟨K1, V1⟩, ⟨⟨ZsK0, ZrK0⟩, ⟨ZsV0, ZrV0⟩⟩, HO⟩
  iapply (hop_round m c κ 1 [(false, 2), (true, 2)] (by decide) (Fin.ext (Gen.k0_dev5_eq c)) (Fin.ext (Gen.k0_dev6_eq c)) (hop_slot c false 1) (hop_slot c true 1)
    rfl rfl rfl rfl) $$ [K1 V1 LK1 LV1 HO AsK1 AsV1 ArK1 ArV1 TsK1 TsV1 TrK1 TrV1 CK1 CV1]
  · iframe HR Hlev Ho K1 V1 LK1 LV1 HO AsK1 AsV1 ArK1 ArV1 TsK1 TsV1 TrK1 TrV1 CK1 CV1
  iintro ⟨⟨K1, V1⟩, ⟨K2, V2⟩, ⟨⟨ZsK1, ZrK1⟩, ⟨ZsV1, ZrV1⟩⟩, HO⟩
  iapply (hop_round m c κ 2 [] (by decide) (Fin.ext (Gen.k0_dev7_eq c)) (Fin.ext (Gen.k0_dev8_eq c)) (hop_slot c false 2) (hop_slot c true 2)
    rfl rfl rfl rfl) $$ [K2 V2 LK2 LV2 HO AsK2 AsV2 ArK2 ArV2 TsK2 TsV2 TrK2 TrV2 CK2 CV2]
  · iframe HR Hlev Ho K2 V2 LK2 LV2 HO AsK2 AsV2 ArK2 ArV2 TsK2 TsV2 TrK2 TrV2 CK2 CV2
  iintro ⟨⟨K2, V2⟩, ⟨K3, V3⟩, ⟨⟨ZsK2, ZrK2⟩, ⟨ZsV2, ZrV2⟩⟩, HO⟩
  unfold runs
  rw [wp_ret]
  imodintro
  iframe Zbar XK XV
  isplitl [Z0 Z1 ZsK0 ZrK0 ZsV0 ZrV0 ZsK1 ZrK1 ZsV1 ZrV1 ZsK2 ZrK2 ZsV2 ZrV2]
  · iapply (Entails.of_eq (bigSep_sites fun k => semVal (cell c k) 0).symm)
    iframe Z0 Z1 ZsK0 ZrK0 ZsV0 ZrV0 ZsK1 ZrK1 ZsV1 ZrV1 ZsK2 ZrK2 ZsV2 ZrV2
  isplitl [K0 K1 K2 K3 V0 V1 V2 V3]
  · isplitl [K0 K1 K2 K3]
    · iapply (Entails.of_eq (bPts_slots c false (gath m false)).symm)
      iframe K0 K1 K2 K3
    iapply (Entails.of_eq (bPts_slots c true (gath m true)).symm)
    iframe V0 V1 V2 V3
  iexact HO

end Cert.KernelIdeal.Attn

end
-- ==== Proof.Between.lean ====
/- The buffers between the two kernels, and the proof data of the gather's region with its body's obligation. -/
module

public import proofs.«01_k».proof.Proof.Run

@[expose] public section

noncomputable section

namespace Cert.KernelIdeal.Attn

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation)
open Cert.KernelIdeal Cert.KernelIdeal.Facts₀ Cert.KernelIdeal.Facts

variable {F : FTy → Type} [FloatOps F]

local notation "𝕄" => MT nD τ sig Unit (Elt F) ℕ UU ℕ

variable (m : (ℓ : Loc nD τ sig) → Buf (Elt F) ℓ)

/-! ## The buffers after the gather -/

/-- A device's buffers once the gather has run: as launched, with the gathered K and V in place. -/
abbrev V₁ (c : Dev nD) : Valuation τ sig (Elt F) :=
  Function.update (Function.update (Gen.V0 m c) (Proc.devRef .tc main_v1_0) (gath m false)) (Proc.devRef .tc main_v1_1) (gath m true)

theorem V₁_k (c : Dev nD) : V₁ m c main_v1_0 = gath m false :=
  (Function.update_of_ne (by decide) ..).trans (Function.update_self ..)
theorem V₁_v (c : Dev nD) : V₁ m c main_v1_1 = gath m true := Function.update_self ..
theorem V₁_of (c : Dev nD) (r : Ref sig .tc) (hk : r ≠ main_v1_0) (hv : r ≠ main_v1_1) : V₁ m c r = Gen.V0 m c r :=
  (Function.update_of_ne (StableHlo.devRef_ne_of_ne hv) ..).trans (Function.update_of_ne (StableHlo.devRef_ne_of_ne hk) ..)

abbrev bufs : Finset (DevRef τ sig) := Pipeline.ucRefs τ sig

/-- One buffer of a device, whole. -/
abbrev pt (c : Dev nD) (r : Ref sig .tc) (f : Buf (Elt F) ((c : Thread nD τ).loc r)) : sProp (MT nD τ sig Unit (Elt F) ℕ UU ℕ) :=
  ((c : Thread nD τ).loc r) ↦{fullShare} f

theorem bufs_eq (c : Dev nD) (W : Valuation τ sig (Elt F)) : (StableHlo.held (c : Thread nD τ) bufs W : sProp 𝕄)
    = iprop(pt c main_arg0 (W main_arg0) ∗ pt c main_arg1 (W main_arg1) ∗ pt c main_arg2 (W main_arg2)
      ∗ pt c main_v1_0 (W main_v1_0) ∗ pt c main_v1_1 (W main_v1_1) ∗ pt c main_v2 (W main_v2)) := by
  unfold StableHlo.held
  rw [bigSep_eq_bigSepL_of_eq [Proc.devRef .tc main_arg0, Proc.devRef .tc main_arg1, Proc.devRef .tc main_arg2,
    Proc.devRef .tc main_v1_0, Proc.devRef .tc main_v1_1, Proc.devRef .tc main_v2] (by decide) (by decide)]
  rfl

theorem xPts_k (c : Dev nD) : (xPts m false c : sProp 𝕄) = pt c main_arg1 (Gen.V0 m c main_arg1) := by
  unfold xPts
  rw [show (xM false).view.set = Finset.univ from View.set_whole _]
  rfl
theorem xPts_v (c : Dev nD) : (xPts m true c : sProp 𝕄) = pt c main_arg2 (Gen.V0 m c main_arg2) := by
  unfold xPts
  rw [show (xM true).view.set = Finset.univ from View.set_whole _]
  rfl

/-! ## What goes into the gather's region and what comes out of it -/

/-- The tokens of the duties a device pays. -/
def pays (c : Dev nD) : sProp (MT nD τ sig Unit (Elt F) ℕ UU ℕ) :=
  iprop((bigSep Finset.univ fun k : Fin 14 => dutyTok ER (cell (dest c k) k) 0 true) ∗ dutyTok ER (bar (nxt c)) 0 false
    ∗ dutyTok ER (bar (prv c)) 0 true)
/-- The credit of what a device is owed. -/
def dueIn (c : Dev nD) : sProp (MT nD τ sig Unit (Elt F) ℕ UU ℕ) :=
  iprop(cred (tallyAt (bar c) () 2) ∗ bigSep Finset.univ fun s : Bool × Fin 3 => cred (tallyAt (cell c (recvIx s.1 s.2)) () N))

/-- Kept for a device from the launch: the records, the right to open its fourteen cells, its place at its barrier, what it
    pays with and what it is owed. -/
def kept (c : Dev nD) : sProp (MT nD τ sig Unit (Elt F) ℕ UU ℕ) :=
  iprop((∃ κ, records m κ) ∗ ((bigSep Finset.univ fun k : Fin 14 => openTok ER (cell c k)) ∗ atPos ER (bar c) 0 ∅ 0) ∗ pays c ∗ dueIn c)

/-- The same with the fourteen cells opened. -/
def ready (c : Dev nD) : sProp (MT nD τ sig Unit (Elt F) ℕ UU ℕ) :=
  iprop((∃ κ, records m κ) ∗ levAts L lv ∗ opens c
    ∗ ((bigSep Finset.univ fun k : Fin 14 => atPos ER (cell c k) 0 ∅ 0) ∗ atPos ER (bar c) 0 ∅ 0) ∗ pays c ∗ dueIn c)

theorem open_all (c : Dev nD) :
    iprop(kept m c ∗ Pipeline.ownSems0 osem c ∗ levAts L lv) ⊢ (|={Set.univ}=> ready m c : sProp 𝕄) := by
  unfold kept ready Pipeline.ownSems0
  iintro ⟨⟨⟨%κ, #HR⟩, ⟨Ht, Hb⟩, Hp, Hd⟩, Hs, #HL⟩
  have hone (k : Fin 14) : iprop(records m κ ∗ openTok ER (cell c k) ∗ semVal (cell c k) 0)
      ⊢ (|={Set.univ}=> iprop(atPos ER (cell c k) 0 ∅ 0 ∗ reached ER (cell c k) 0) : sProp 𝕄) := by
    iintro ⟨#HR, Ht, Hs⟩
    iapply (Rounds.cell_open ER (gatherRd m) (g := cell c k) (Set.mem_univ (κ (cell c k))))
    isplitr; · iapply (inv_cell m κ c k); iexact HR
    isplitl [Ht] <;> iassumption
  ihave Hts := (Entails.of_eq (bigSep_sep' Finset.univ (fun k : Fin 14 => (openTok ER (cell c k) : sProp 𝕄))
    (fun k : Fin 14 => (semVal (cell c k) 0 : sProp 𝕄))).symm) $$ [Ht Hs]
  · isplitl [Ht]; · iexact Ht
    iexact Hs
  ihave Hall := (show iprop(records m κ ∗ bigSep Finset.univ fun k : Fin 14 => iprop(openTok ER (cell c k) ∗ semVal (cell c k) 0))
      ⊢ (bigSep Finset.univ fun k : Fin 14 => iprop(|={Set.univ}=> iprop(atPos ER (cell c k) 0 ∅ 0 ∗ reached ER (cell c k) 0)) : sProp 𝕄) from
    bigSep_with_persistent fun k _ => hone k) $$ [Hts]
  · isplitr; · iexact HR
    iexact Hts
  imod (bigSep_fupd Finset.univ _) $$ Hall with Hall
  ihave H2 := (Entails.of_eq (bigSep_sep' Finset.univ (fun k : Fin 14 => (atPos ER (cell c k) 0 ∅ 0 : sProp 𝕄))
    (fun k : Fin 14 => (reached ER (cell c k) 0 : sProp 𝕄)))) $$ Hall
  icases H2 with ⟨Ha, #Ho⟩
  imodintro
  isplitr; · iexists κ; iexact HR
  isplitr; · iexact HL
  isplitr; · unfold opens; iexact Ho
  isplitl [Ha Hb]
  · isplitl [Ha] <;> iassumption
  isplitl [Hp] <;> iassumption

/-! ## The gather's proof data -/

/-- What passes through the gather's region untouched: the other kernel's staging buffers and the generator register. -/
abbrev idle (c : Dev nD) : sProp (MT nD τ sig Unit (Elt F) ℕ UU ℕ) :=
  iprop(Pipeline.scopedRest (cfgs 0).spec c ∗ ∃ r, prngReg c r)

abbrev before0 (c : Dev nD) : sProp (MT nD τ sig Unit (Elt F) ℕ UU ℕ) :=
  iprop(idle c ∗ StableHlo.held (c.tc : Thread nD τ) bufs (Gen.V0 m c) ∗ ready m c)
abbrev after0 (c : Dev nD) : sProp (MT nD τ sig Unit (Elt F) ℕ UU ℕ) :=
  iprop(idle c ∗ StableHlo.held (c.tc : Thread nD τ) bufs (V₁ m c) ∗ Pipeline.ownSems0 osem c ∗ semVal (bar c) 0)

def dat0 (c : Dev nD) : Dat τ (Elt F) Unit ℕ UU ℕ cfg0 c where
  A w := w.elim0
  after w := w.elim0
  Φ t := if t.val = 0 then before0 m c else after0 m c
  q w := w.elim0
  owed t := if t.val = 0 then O₀ c else 0

theorem owed0_first (c : Dev nD) : (dat0 m c).owed 0 = O₀ c := by
  show (if (0 : Fin (cfg0.N + 1)).val = 0 then O₀ c else 0) = O₀ c
  exact if_pos rfl
theorem owed0_last (c : Dev nD) : (dat0 m c).owed (Fin.last _) = 0 := by
  show (if (Fin.last cfg0.N).val = 0 then O₀ c else 0) = 0
  exact if_neg (by decide)
theorem Φ0_first (c : Dev nD) : (dat0 m c).Φ 0 = before0 m c := by
  show (if (0 : Fin (cfg0.N + 1)).val = 0 then before0 m c else after0 m c) = before0 m c
  exact if_pos rfl
theorem Φ0_last (c : Dev nD) : (dat0 m c).Φ (Fin.last _) = after0 m c := by
  show (if (Fin.last cfg0.N).val = 0 then before0 m c else after0 m c) = after0 m c
  exact if_neg (by decide)

theorem owesAt_elim {cfg : Cfg sig Λ₀} {c : Dev nD} (dat : Dat τ (Elt F) Unit ℕ UU ℕ cfg c) (t : Fin (cfg.N + 1)) {O : CellTallies nD τ sig Unit}
    (h : dat.owed t = O) : (dat.owesAt () t : sProp 𝕄) ⊢ owing c O := by
  unfold Dat.owesAt Pipeline.owesWithin owing
  rw [h]
  iintro ⟨%W, -, HO⟩
  iexists W; iexact HO
theorem owesAt_intro {cfg : Cfg sig Λ₀} {c : Dev nD} (dat : Dat τ (Elt F) Unit ℕ UU ℕ cfg c) (t : Fin (cfg.N + 1)) {O : CellTallies nD τ sig Unit}
    (h : dat.owed t = O) (hr : dat.recorded t = Set.univ) : (owing c O : sProp 𝕄) ⊢ dat.owesAt () t := by
  unfold Dat.owesAt Pipeline.owesWithin Dat.bound owing
  rw [h, hr]
  iintro ⟨%W, HO⟩
  iexists W
  isplitr
  · ipureintro; exact fun _ _ => Or.inl trivial
  iexact HO

theorem no_window {M : Type} [URA M] (Φ : Fin 0 → sProp M) : bigSep Finset.univ Φ = (BI.emp : sProp M) :=
  bigSep_univ_eq_bigSepL [] (by decide) (by decide) Φ

theorem row0 (t : Fin cfg0.N) : defs₀ (F := F) .tc cfg0.body (cfg0.bodyArgs t (cfg0.slots t)) = Gen.bodyAt0 t := by
  unfold defs₀; rw [Defs.onTc_tc]

/-- The gather's run between the region's boundary states. -/
theorem gather_body (c : Dev nD) :
    iprop(before0 m c ∗ owing c (O₀ c)) ⊢ runs c (Gen.bodyAt0 ⟨0, by decide⟩) fun _ => iprop(after0 m c ∗ owing c 0) := by
  unfold before0 after0 ready
  rw [bufs_eq, bufs_eq, V₁_k, V₁_v, V₁_of m c main_arg0 (by decide) (by decide), V₁_of m c main_arg1 (by decide) (by decide),
    V₁_of m c main_arg2 (by decide) (by decide), V₁_of m c main_v2 (by decide) (by decide), ← xPts_k, ← xPts_v]
  iintro ⟨⟨Hi, ⟨HA, HxK, HxV, HbK, HbV, HO⟩, ⟨%κ, #HR⟩, #HL, #Hop, Hat, Hp, Hd⟩, Hw⟩
  unfold runs
  iapply wp_wand $$ [HxK HxV HbK HbV Hat Hp Hd Hw]
  · iapply (gather_run m κ c)
    unfold gatherPre pays dueIn
    isplitr; · iexact HR
    isplitr; · iexact HL
    isplitr; · iexact Hop
    isplitl [Hat]; · iexact Hat
    isplitl [Hp]; · iexact Hp
    isplitl [Hd]; · iexact Hd
    isplitl [HxK HxV]
    · isplitl [HxK] <;> iassumption
    isplitl [HbK HbV]
    · isplitl [HbK]
      · iexists _; iexact HbK
      · iexists _; iexact HbV
    iexact Hw
  iintro %u Hpost
  unfold gatherPost owing
  icases Hpost with ⟨⟨Hb0, Hs0⟩, ⟨HxK, HxV⟩, ⟨HbK, HbV⟩, Hw⟩
  isplitr [Hw]
  · isplitl [Hi]; · iexact Hi
    isplitl [HA HxK HxV HbK HbV HO]
    · isplitl [HA]; · iexact HA
      isplitl [HxK]; · iexact HxK
      isplitl [HxV]; · iexact HxV
      isplitl [HbK]; · iexact HbK
      isplitl [HbV]; · iexact HbV
      iexact HO
    isplitl [Hs0]
    · unfold Pipeline.ownSems0; iexact Hs0
    iexact Hb0
  iexact Hw

/-- The gather's one grid point. -/
abbrev t₀ : Fin cfg0.N := ⟨0, by decide⟩

theorem body0 (c : Dev nD) : BodyObligation (dat0 m c) (defs₀ (F := F)) 𝒱₀ () Set.univ := fun t => by
  obtain rfl : t = t₀ := Gen.fin_N0 t
  rw [no_window, no_window, row0]
  rw [show (dat0 m c).Φ t₀.castSucc = before0 m c from rfl,
    show (dat0 m c).Φ t₀.succ = after0 m c from rfl]
  iintro ⟨HΦ, HO, -⟩
  ihave Hw := (owesAt_elim (dat0 m c) t₀.castSucc (show (dat0 m c).owed t₀.castSucc = O₀ c from rfl)) $$ HO
  iapply wp_wand $$ [HΦ Hw]
  · iapply (gather_body m c)
    isplitl [HΦ] <;> iassumption
  iintro %u ⟨HΦ, Hw⟩
  isplitl [HΦ]; · iexact HΦ
  isplitl [Hw]
  · iapply (owesAt_intro (dat0 m c) t₀.succ (show (dat0 m c).owed t₀.succ = 0 from rfl) rfl)
    iexact Hw
  iempintro

end Cert.KernelIdeal.Attn

end
-- ==== Proof.Attend.lean ====
/- The attention on one device: one head of the kernel's body as a function of the loaded rows, the body's sixteen heads as
   one list over the head's number, and the body's run at a grid point. Over any float values `F`. -/
module

public import proofs.«01_k».proof.Proof.Common
public import Idealize.ShloMosaic.Lib.Pipeline.FrameBody
public import Idealize.ShloMosaic.Lib.Pipeline.Value
public import Idealize.ShloMosaic.Lib.Ring
public import Idealize.ShloMosaic.Lib.Tactic
public import Idealize.ShloMosaic.Lib.WordCmp

@[expose] public section

set_option maxRecDepth 16384

noncomputable section

namespace Cert.KernelIdeal.Attn

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Facts₀ Cert.KernelIdeal.Facts

variable {F : FTy → Type} [FloatOps F]

local notation "𝕄" => MT nD τ sig Unit (Elt F) ℕ UU ℕ

/-! ## One head -/

theorem q_inb (h : Fin 16) : ∀ a, (![0, 0, h.val, 0] : Fin 4 → ℕ) a + S1x256x1x64.size a ≤ S1x256x16x64.size a := by revert h; decide
theorem k_inb (o : Fin 4) (h : Fin 16) : ∀ a, (![o.val, 0, 0, h.val, 0] : Fin 5 → ℕ) a + S1x1x256x1x64.size a ≤ S4x1x256x16x64.size a := by
  revert o h; decide

/-- Head `h`'s rows of a block of queries (or of the result), and of slot `o` of a block of gathered keys or values. -/
abbrev rQ (h : Fin 16) : Rect S1x256x16x64 := Rect.unit (s := S1x256x16x64) ![0, 0, h.val, 0] S1x256x1x64.size (q_inb h)
abbrev rK (o : Fin 4) (h : Fin 16) : Rect S4x1x256x16x64 := Rect.unit (s := S4x1x256x16x64) ![o.val, 0, 0, h.val, 0] S1x1x256x1x64.size (k_inb o h)

/-- What the body computes of one head's rows: the queries, the four slots' keys, the four slots' values. -/
def headOf (q : Vec F S1x256x1x64 .f32) (k v : Fin 4 → Vec F S1x1x256x1x64 .f32) : Vec F S1x256x1x64 .f32 :=
  Gen.k1_pay6 (Gen.k1_pay1 q) (Gen.k1_pay2 (k 0) (k 1) (k 2) (k 3)) (Gen.k1_pay3 (v 0)) (Gen.k1_pay4 (v 1)) (Gen.k1_pay5 (v 2)) (v 3)

/-- Head `h` of the windows' blocks. -/
def headF (x0 : Vec F S1x256x16x64 .f32) (x1 x2 : Vec F S4x1x256x16x64 .f32) (h : Fin 16) : Vec F S1x256x1x64 .f32 :=
  headOf (View.ld x0 (rQ h)) (fun o => View.ld x1 (rK o h)) (fun o => View.ld x2 (rK o h))

/-- The heads, the one stored last first. -/
abbrev headOrder : List (Fin 16) := [15, 14, 13, 12, 11, 10, 9, 8, 7, 6, 5, 4, 3, 2, 1, 0]
def pieces (p : Fin 16 → Vec F S1x256x1x64 .f32) : List (View.Piece (Elt F) S1x256x16x64 .f32) := headOrder.map fun h => ⟨rQ h, p h⟩

theorem pieces_cover (p : Fin 16 → Vec F S1x256x1x64 .f32) (y : S1x256x16x64.Idx) : ∃ pc ∈ pieces p, y ∈ pc.1.set := by
  refine ⟨⟨rQ ⟨(y 2).val, (y 2).isLt⟩, p _⟩, List.mem_map.mpr ⟨⟨(y 2).val, (y 2).isLt⟩, by generalize (⟨(y 2).val, (y 2).isLt⟩ : Fin 16) = h; revert h; decide, rfl⟩, ?_⟩
  refine (Rect.mem_set_unit (inb := q_inb _)).mpr fun a => ?_
  have hb : (y a).val < S1x256x16x64.size a := (y a).isLt
  fin_cases a
  · exact ⟨Nat.zero_le _, (Nat.zero_add _).symm ▸ hb⟩
  · exact ⟨Nat.zero_le _, (Nat.zero_add _).symm ▸ hb⟩
  · exact ⟨le_rfl, Nat.lt_succ_self _⟩
  · exact ⟨Nat.zero_le _, (Nat.zero_add _).symm ▸ hb⟩

/-- The result's block, of the windows' blocks. -/
def attended (x0 : Vec F S1x256x16x64 .f32) (x1 x2 : Vec F S4x1x256x16x64 .f32) : Vec F S1x256x16x64 .f32 :=
  View.canon (pieces (headF x0 x1 x2))

/-! ## The body's run -/

set_option maxHeartbeats 4000000 in
theorem attend_run (c : Dev nD) (E : Set ℕ) (i : grid1.Coords) (a₁ : Memref sig .tc .vmem S1x256x16x64 .f32) (h₁ : a₁.IsWhole)
    (a₂ : Memref sig .tc .vmem S4x1x256x16x64 .f32) (h₂ : a₂.IsWhole) (a₃ : Memref sig .tc .vmem S4x1x256x16x64 .f32) (h₃ : a₃.IsWhole)
    (a₄ : Memref sig .tc .vmem S1x256x16x64 .f32) (h₄ : a₄.IsWhole)
    (x0 : Vec F S1x256x16x64 .f32) (x1 x2 : Vec F S4x1x256x16x64 .f32) (K : PUnit → sProp (MT nD τ sig Unit (Elt F) ℕ UU ℕ)) :
    iprop((owns (c : Thread nD τ) a₁ fullShare x0 ∗ owns (c : Thread nD τ) a₂ fullShare x1 ∗ owns (c : Thread nD τ) a₃ fullShare x2)
        ∗ (∃ d, owns (c : Thread nD τ) a₄ fullShare d)
        ∗ (iprop((owns (c : Thread nD τ) a₁ fullShare x0 ∗ owns (c : Thread nD τ) a₂ fullShare x1 ∗ owns (c : Thread nD τ) a₃ fullShare x2)
          ∗ owns (c : Thread nD τ) a₄ fullShare (attended x0 x1 x2)) -∗ K ⟨⟩))
      ⊢ wp frame (wpE (defs₀ (F := F)) 𝒱₀ c none) E (cc1_body i a₁ h₁ a₂ h₂ a₃ h₃ a₄ h₄) K := by
  rw [Gen.cc1_body_eq_skeleton]
  unfold Gen.cc1_body_skel
  simp only [Gen.k1_part1_eq_skeleton, Gen.k1_part2_eq_skeleton, Gen.k1_part3_eq_skeleton, Gen.k1_part4_eq_skeleton,
    Gen.k1_part5_eq_skeleton, Gen.k1_part6_eq_skeleton, Gen.k1_part7_eq_skeleton, Gen.k1_part8_eq_skeleton,
    Gen.k1_part9_eq_skeleton, Gen.k1_part10_eq_skeleton, Gen.k1_part11_eq_skeleton, Gen.k1_part12_eq_skeleton,
    Gen.k1_part13_eq_skeleton, Gen.k1_part14_eq_skeleton, Gen.k1_part15_eq_skeleton, Gen.k1_part16_eq_skeleton,
    Gen.k1_part17_eq_skeleton, Gen.k1_part18_eq_skeleton, Gen.k1_part19_eq_skeleton, Gen.k1_part20_eq_skeleton,
    Gen.k1_part21_eq_skeleton, Gen.k1_part22_eq_skeleton, Gen.k1_part23_eq_skeleton, Gen.k1_part24_eq_skeleton]
  unfold owns
  iintro ⟨⟨⟨%f0, %hf0, H0⟩, ⟨%f1, %hf1, H1⟩, ⟨%f2, %hf2, H2⟩⟩, ⟨%d3, %f3, -, H3⟩, Hk⟩
  subst hf0 hf1 hf2
  sl_exec
  sl_step
  iapply Hk
  isplitr [H3]
  · isplitl [H0]
    · iexists f0; isplitr; · ipureintro; rfl
      iexact H0
    isplitl [H1]
    · iexists f1; isplitr; · ipureintro; rfl
      iexact H1
    iexists f2; isplitr; · ipureintro; rfl
    iexact H2
  iexists _; isplitr
  swap; · iexact H3
  ipureintro
  exact View.read_writes_eq_canon _ _ (pieces (headF _ _ _)) (pieces_cover _)

end Cert.KernelIdeal.Attn

end
-- ==== Proof.Windows.lean ====
/- The attention's region: its proof data over the buffers the gather leaves, and its body's obligation. -/
module

public import proofs.«01_k».proof.Proof.Between
public import proofs.«01_k».proof.Proof.Attend

@[expose] public section

noncomputable section

namespace Cert.KernelIdeal.Attn

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation)
open Cert.KernelIdeal Cert.KernelIdeal.Facts₀ Cert.KernelIdeal.Facts

variable {F : FTy → Type} [FloatOps F]

local notation "𝕄" => MT nD τ sig Unit (Elt F) ℕ UU ℕ

variable (m : (ℓ : Loc nD τ sig) → Buf (Elt F) ℓ)

/-! ## The windows' blocks -/

/-- Window `w`'s block at a grid point, of the buffers as the gather leaves them. -/
def blockIn (c : Dev nD) (w : Fin cfg1.W) (t : Fin cfg1.N) : ((cfg1.win w).xblock (cfg1.grid.coords t)).Idx → Elt F (cfg1.win w).elt :=
  ((cfg1.win w).blk t).view.read (Elt F) (V₁ m c (Pipeline.arrRef spec1 w))

def dat1 (c : Dev nD) : Dat τ (Elt F) Unit ℕ UU ℕ cfg1 c where
  A w := V₁ m c (Pipeline.arrRef spec1 w)
  after w t := match w with
    | ⟨0, _⟩ => blockIn m c 0 t
    | ⟨1, _⟩ => blockIn m c 1 t
    | ⟨2, _⟩ => blockIn m c 2 t
    | ⟨3, _⟩ => attended (blockIn m c 0 t) (blockIn m c 1 t) (blockIn m c 2 t)
  Φ _ := Pipeline.ΦA spec1 c
  q _ := fullShare
  owed _ := 0

theorem arr1 (c : Dev nD) (w : Fin cfg1.W) : (dat1 m c).A w = V₁ m c (Pipeline.arrRef spec1 w) := by dsimp only [dat1]
theorem leaves0 (c : Dev nD) (t : Fin cfg1.N) : (dat1 m c).after 0 t = blockIn m c 0 t := by dsimp only [dat1]
theorem leaves1 (c : Dev nD) (t : Fin cfg1.N) : (dat1 m c).after 1 t = blockIn m c 1 t := by dsimp only [dat1]
theorem leaves2 (c : Dev nD) (t : Fin cfg1.N) : (dat1 m c).after 2 t = blockIn m c 2 t := by dsimp only [dat1]
theorem leaves3 (c : Dev nD) (t : Fin cfg1.N) :
    (dat1 m c).after 3 t = attended (blockIn m c 0 t) (blockIn m c 1 t) (blockIn m c 2 t) := by dsimp only [dat1]

theorem finds0 (c : Dev nD) (t : Fin cfg1.N) (d) : (dat1 m c).before 0 t d = blockIn m c 0 t :=
  ((dat1 m c).before_in_eq_fetched 0 rfl (fun _ => rfl) (fun _ _ _ => rfl)
    (fun t => by rw [leaves0]; unfold Dat.blockOf blockIn; rw [arr1]; try rfl) t d).trans (by unfold Dat.fetched Dat.blockOf blockIn; rw [arr1]; try rfl)
theorem finds1 (c : Dev nD) (t : Fin cfg1.N) (d) : (dat1 m c).before 1 t d = blockIn m c 1 t :=
  ((dat1 m c).before_in_eq_fetched 1 rfl (fun _ => rfl) (fun _ _ _ => rfl)
    (fun t => by rw [leaves1]; unfold Dat.blockOf blockIn; rw [arr1]; try rfl) t d).trans (by unfold Dat.fetched Dat.blockOf blockIn; rw [arr1]; try rfl)
theorem finds2 (c : Dev nD) (t : Fin cfg1.N) (d) : (dat1 m c).before 2 t d = blockIn m c 2 t :=
  ((dat1 m c).before_in_eq_fetched 2 rfl (fun _ => rfl) (fun _ _ _ => rfl)
    (fun t => by rw [leaves2]; unfold Dat.blockOf blockIn; rw [arr1]; try rfl) t d).trans (by unfold Dat.fetched Dat.blockOf blockIn; rw [arr1]; try rfl)

theorem row1 (t : Fin cfg1.N) : defs₀ (F := F) .tc cfg1.body (cfg1.bodyArgs t (cfg1.slots t)) = Gen.bodyAt1 t := by
  unfold defs₀; rw [Defs.onTc_tc]

/-- A grid point's body, from the windows' buffers as it finds them to the windows' buffers as it leaves them. -/
theorem attend_body (c : Dev nD) (t : Fin cfg1.N) :
    iprop((dat1 m c).Φ t.castSucc ∗ (dat1 m c).owesAt () t.castSucc
        ∗ (∃ d, owns (c : Thread nD τ) (Gen.st1_0 t) fullShare ((dat1 m c).before 0 t d))
        ∗ (∃ d, owns (c : Thread nD τ) (Gen.st1_1 t) fullShare ((dat1 m c).before 1 t d))
        ∗ (∃ d, owns (c : Thread nD τ) (Gen.st1_2 t) fullShare ((dat1 m c).before 2 t d))
        ∗ (∃ d, owns (c : Thread nD τ) (Gen.st1_3 t) fullShare ((dat1 m c).before 3 t d)))
      ⊢ wp frame (wpE (defs₀ (F := F)) 𝒱₀ c none) Set.univ (Gen.bodyAt1 t) fun _ =>
        iprop((dat1 m c).Φ t.succ ∗ (dat1 m c).owesAt () t.succ
          ∗ owns (c : Thread nD τ) (Gen.st1_0 t) fullShare ((dat1 m c).after 0 t)
          ∗ owns (c : Thread nD τ) (Gen.st1_1 t) fullShare ((dat1 m c).after 1 t)
          ∗ owns (c : Thread nD τ) (Gen.st1_2 t) fullShare ((dat1 m c).after 2 t)
          ∗ owns (c : Thread nD τ) (Gen.st1_3 t) fullShare ((dat1 m c).after 3 t)) := by
  unfold Gen.bodyAt1
  simp only [finds0, finds1, finds2]
  rw [show (dat1 m c).Φ t.succ = (dat1 m c).Φ t.castSucc from rfl,
    show (dat1 m c).owesAt () t.succ = (dat1 m c).owesAt () t.castSucc from rfl, leaves0, leaves1, leaves2, leaves3]
  iintro ⟨HΦ, Ho, ⟨%d0, H0⟩, ⟨%d1, H1⟩, ⟨%d2, H2⟩, ⟨%d3, H3⟩⟩
  iapply (attend_run c Set.univ (grid1.coords t) _ _ _ _ _ _ _ _ (blockIn m c 0 t) (blockIn m c 1 t) (blockIn m c 2 t) _)
  isplitl [H0 H1 H2]
  · isplitl [H0]; · iexact H0
    isplitl [H1] <;> iassumption
  isplitl [H3]; · iexists _; iexact H3
  iintro ⟨⟨H0, H1, H2⟩, H3⟩
  isplitl [HΦ]; · iexact HΦ
  isplitl [Ho]; · iexact Ho
  isplitl [H0]; · iexact H0
  isplitl [H1]; · iexact H1
  isplitl [H2]; · iexact H2
  iexact H3

theorem body1 (c : Dev nD) : BodyObligation (dat1 m c) (defs₀ (F := F)) 𝒱₀ () Set.univ := fun t => by
  rw [Gen.bigSep_W1, Gen.bigSep_W1, row1]
  exact triple_restated (attend_body m c t) rfl .rfl fun _ => .rfl

end Cert.KernelIdeal.Attn

end
-- ==== Proof.Records.lean ====
/- The two regions' records. -/
module

public import proofs.«01_k».proof.Proof.Windows

@[expose] public section

noncomputable section

namespace Cert.KernelIdeal.Attn

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation)
open Cert.KernelIdeal Cert.KernelIdeal.Facts₀ Cert.KernelIdeal.Facts

variable {F : FTy → Type} [FloatOps F]

local notation "𝕄" => MT nD τ sig Unit (Elt F) ℕ UU ℕ

variable (m : (ℓ : Loc nD τ sig) → Buf (Elt F) ℓ)

/-- The buffers at the end: the attention's result in place. -/
abbrev V₂ (c : Dev nD) : Valuation τ sig (Elt F) := Function.update (V₁ m c) (Proc.devRef .tc main_v2) ((dat1 m c).arrAt 3 cfg1.N)

theorem V₂_out (c : Dev nD) : V₂ m c main_v2 = (dat1 m c).arrAt 3 cfg1.N := Function.update_self ..
theorem V₂_of (c : Dev nD) (r : Ref sig .tc) (h : r ≠ main_v2) : V₂ m c r = V₁ m c r :=
  Function.update_of_ne (StableHlo.devRef_ne_of_ne h) ..

def pdats : (p : Fin 2) → (c : Dev nD) → Dat τ (Elt F) Unit ℕ UU ℕ (Pipeline.pin (pcfgs (F := F)) Gen.adm p) c
  | 0 => dat0 m
  | 1 => dat1 m

local notation "ℝ𝕊" => Pipeline.RegionSeg (pcfgs (F := F)) Gen.adm (pdats m) () defs₀ 𝒱₀ L lv

theorem own_sems : Pipeline.OwnSemFacts (cfgs 0).spec osem := by decide

theorem cut0 (c : Dev nD) (t : Fin (cfg0.N + 1)) (g : GSem nD τ sig) (i : Unit) (h : 0 < (dat0 m c).owed t g i) : i ∈ L g ∧ 0 < lv g i := by
  have e : (dat0 m c).owed t = if t.val = 0 then O₀ c else 0 := rfl
  rw [e] at h
  split at h
  · exact ⟨L_tc g i (above_O₀ c g i h).1, (above_O₀ c g i h).2⟩
  · exact absurd h (Nat.lt_irrefl 0)

theorem enter0 (c : Dev nD) : iprop(Pipeline.scopedRest (cfgs 0).spec c ∗ (∃ r, prngReg c r) ∗ StableHlo.held (c.tc : Thread nD τ) bufs (Gen.V0 m c) ∗ ready m c)
    ⊢ (dat0 m c).Φ 0 := by
  rw [Φ0_first]
  unfold before0 idle
  iintro ⟨Hs, Hp, Hh, Hr⟩
  iframe Hs Hp Hh Hr
theorem leave0 (c : Dev nD) : (dat0 m c).Φ (Fin.last _) ⊢ iprop(Pipeline.scopedRest (cfgs 0).spec c ∗ (∃ r, prngReg c r)
    ∗ StableHlo.held (c.tc : Thread nD τ) bufs (V₁ m c) ∗ Pipeline.ownSems0 osem c ∗ semVal (bar c) 0) := by
  rw [Φ0_last]
  unfold after0 idle
  iintro ⟨⟨Hs, Hp⟩, Hh, Ho, Hb⟩
  iframe Hs Hp Hh Ho Hb

set_option backward.isDefEq.respectTransparency.types false in
/-- The gather's region: entered owing `O₀`, left owing nothing, the barrier's counter back at zero. -/
def reg0 : ℝ𝕊 0 :=
  Pipeline.RegionSeg.ofTalk (pcfgs (F := F)) Gen.adm (pdats m) () defs₀ 𝒱₀ L lv 0 osem own_sems
    bufs bufs (Finset.Subset.refl _) Gen.launch0.toP rfl (fun c => (body0 m c).loose)
    (fun _ => 0) O₀ (fun c => (owed0_first m c).trans (zero_add _).symm) (owed0_last m) (fun _ => rfl) (fun _ w => w.elim0)
    (Gen.V0 m) (V₁ m) (fun _ b hb => absurd hb (by rw [Finset.sdiff_self]; exact Finset.notMem_empty b))
    (kept m) (fun c => semVal (bar c) 0) (ready m) (fun c => semVal (bar c) 0) (open_all m) (enter0 m) (leave0 m)
    (fun c => by iintro H; imodintro; iexact H)
    (fun _ => 0)
    ⟨fun _ w => w.elim0, fun _ w => w.elim0, fun c t g i h => cut0 m c t g i h⟩
    (fun _ => iprop(emp))
    (fun _ w => w.elim0) (fun _ w => w.elim0)

/-- No array belongs to the gather's region as a window. -/
theorem no_arrays (c : Dev nD) (W : Valuation τ sig (Elt F)) :
    (StableHlo.held (c.tc : Thread nD τ) (Pipeline.arrRefs (τ := τ) (pcfgs (F := F) 0).spec) W : sProp 𝕄) = BI.emp := by
  have h : Pipeline.arrRefs (τ := τ) (pcfgs (F := F) 0).spec = ∅ := by
    unfold Pipeline.arrRefs
    rw [Finset.map_eq_empty, Finset.image_eq_empty]
    exact Finset.univ_eq_empty (α := Fin 0)
  rw [h]
  unfold StableHlo.held
  exact BI.bigSep_empty

/-- What a device starts @main with. -/
def atStart (c : Dev nD) : sProp (MT nD τ sig Unit (Elt F) ℕ UU ℕ) :=
  iprop(StableHlo.held (c : Thread nD τ) bufs (Gen.V0 m c) ∗ (∃ r, prngReg c r) ∗ kept m c ∗ owing c (O₀ c))
/-- Between the two kernels, -/
def atMiddle (c : Dev nD) : sProp (MT nD τ sig Unit (Elt F) ℕ UU ℕ) :=
  iprop(StableHlo.held (c : Thread nD τ) bufs (V₁ m c) ∗ (∃ r, prngReg c r) ∗ semVal (bar c) 0 ∗ owing c 0)
/-- and at the end. -/
def atEnd (c : Dev nD) : sProp (MT nD τ sig Unit (Elt F) ℕ UU ℕ) :=
  iprop(StableHlo.held (c : Thread nD τ) bufs (V₂ m c) ∗ semVal (bar c) 0)

theorem reg0_pre (c : Dev nD) : atStart m c ⊢ (reg0 m).pre c := by
  show _ ⊢ iprop(StableHlo.held (c.tc : Thread nD τ) (Pipeline.arrRefs (τ := τ) (pcfgs (F := F) 0).spec) (Gen.V0 m c) ∗ (∃ r, prngReg c r)
    ∗ (StableHlo.held (c.tc : Thread nD τ) bufs (Gen.V0 m c) ∗ emp) ∗ kept m c ∗ ∃ Wd, owes (c : Thread nD τ) (0 + O₀ c) Wd)
  rw [no_arrays, zero_add]
  unfold atStart owing
  iintro ⟨Hh, Hp, Hk, HO⟩
  iframe Hp Hh Hk HO
  iempintro
theorem reg0_post (c : Dev nD) : (reg0 m).post c ⊢ atMiddle m c := by
  show iprop(StableHlo.held (c.tc : Thread nD τ) (Pipeline.arrRefs (τ := τ) (pcfgs (F := F) 0).spec) (V₁ m c) ∗ (∃ r, prngReg c r)
    ∗ (StableHlo.held (c.tc : Thread nD τ) bufs (V₁ m c) ∗ emp) ∗ semVal (bar c) 0 ∗ ∃ Wd, owes (c : Thread nD τ) (0 : CellTallies nD τ sig Unit) Wd) ⊢ _
  rw [no_arrays]
  unfold atMiddle owing
  iintro ⟨-, Hp, ⟨Hh, -⟩, Hb, HO⟩
  iframe Hh Hp Hb HO

/-! ## The attention's region -/

abbrev winBufs : Finset (DevRef τ sig) := Pipeline.arrRefs (pcfgs (F := F) 1).spec

theorem arrs_before (c : Dev nD) (w : Fin cfg1.W) : (dat1 m c).arrAt w 0 = V₁ m c (Proc.devRef .tc (Pipeline.arrRef spec1 w)) := rfl
theorem arrs_after (c : Dev nD) (w : Fin cfg1.W) : (dat1 m c).arrAt w cfg1.N = V₂ m c (Proc.devRef .tc (Pipeline.arrRef spec1 w)) := by
  fin_cases w
  · exact ((dat1 m c).arrAt_in 0 rfl _).trans ((arr1 m c 0).trans (V₂_of m c main_arg0 (by decide)).symm)
  · exact ((dat1 m c).arrAt_in 1 rfl _).trans ((arr1 m c 1).trans (V₂_of m c main_v1_0 (by decide)).symm)
  · exact ((dat1 m c).arrAt_in 2 rfl _).trans ((arr1 m c 2).trans (V₂_of m c main_v1_1 (by decide)).symm)
  · exact (V₂_out m c).symm

/-- The staging semaphores lie at the lowest level. -/
theorem stage_lv : ∀ (w : Fin 4) (s : Fin (spec1 w).nbuf), semLv (.dma ((spec1 w).sem s)) ≤ 0 := by decide

set_option backward.isDefEq.respectTransparency.types false in
/-- The attention's region: nothing owed, its windows' arrays and the generator register in and out. -/
def reg1 : ℝ𝕊 1 :=
  Pipeline.RegionSeg.ofHeld (pcfgs (F := F)) Gen.adm (pdats m) () defs₀ 𝒱₀ L lv 1 (fun _ => 0)
    (fun c => iprop(∃ r, prngReg c r)) (fun c => iprop(∃ r, prngReg c r)) Gen.launch1.toP rfl (fun c => (body1 m c).loose)
    (fun _ _ => rfl) (fun _ => rfl) (fun c => (dat1 m c).share_full fun _ => rfl)
    (fun c => .rfl) (fun c => .rfl)
    (fun _ => 0)
    ⟨fun c w s => L_tc _ _ rfl, fun _ w s => stage_lv w s, fun c g i h => absurd h (Nat.lt_irrefl 0)⟩
    (fun c => iprop(StableHlo.held (c.tc : Thread nD τ) (bufs \ winBufs (F := F)) (V₁ m c) ∗ semVal (bar c) 0))
    (V₁ m) (V₂ m) (arrs_before m) (arrs_after m)

theorem win_sub : winBufs (F := F) ⊆ bufs := Pipeline.arrRefs_sub_ucRefs spec1 (by decide)

theorem out_in_win : (Proc.devRef .tc main_v2 : DevRef τ sig) ∈ winBufs (F := F) :=
  Finset.mem_map_of_mem _ (Finset.mem_image.mpr ⟨(3 : Fin 4), Finset.mem_univ _, rfl⟩)

theorem rest_same (c : Dev nD) : ∀ b ∈ bufs \ winBufs (F := F), V₂ m c b = V₁ m c b := fun b hb =>
  Function.update_of_ne (fun e => (Finset.mem_sdiff.mp hb).2 (by rw [show b = Proc.devRef .tc main_v2 from e]; exact out_in_win)) ..

theorem reg1_pre (c : Dev nD) : atMiddle m c ⊢ (reg1 m).pre c := by
  show _ ⊢ iprop(StableHlo.held (c.tc : Thread nD τ) (winBufs (F := F)) (V₁ m c) ∗ (∃ r, prngReg c r)
    ∗ (StableHlo.held (c.tc : Thread nD τ) (bufs \ winBufs (F := F)) (V₁ m c) ∗ semVal (bar c) 0) ∗ ∃ Wd, owes (c : Thread nD τ) (0 : CellTallies nD τ sig Unit) Wd)
  unfold atMiddle owing
  rw [StableHlo.held_sub_split (c.tc : Thread nD τ) (win_sub (F := F)) (V₁ m c)]
  iintro ⟨⟨Hw, Hr⟩, Hp, Hb, HO⟩
  iframe Hw Hp Hr Hb HO
theorem reg1_post (c : Dev nD) : (reg1 m).post c ⊢ iprop(atEnd m c ∗ ∃ W, owes (c : Thread nD τ) (0 : CellTallies nD τ sig Unit) W) := by
  show iprop(StableHlo.held (c.tc : Thread nD τ) (winBufs (F := F)) (V₂ m c) ∗ (∃ r, prngReg c r)
    ∗ (StableHlo.held (c.tc : Thread nD τ) (bufs \ winBufs (F := F)) (V₁ m c) ∗ semVal (bar c) 0) ∗ ∃ Wd, owes (c : Thread nD τ) (0 : CellTallies nD τ sig Unit) Wd) ⊢ _
  unfold atEnd
  rw [StableHlo.held_sub_split (c.tc : Thread nD τ) (win_sub (F := F)) (V₂ m c), StableHlo.held_congr (c.tc : Thread nD τ) (rest_same m c)]
  iintro ⟨Hw, -, ⟨Hr, Hb⟩, HO⟩
  iframe Hw Hr Hb HO

end Cert.KernelIdeal.Attn

end
-- ==== Proof.Whole.lean ====
/- The launch and the whole run. -/
module

public import proofs.«01_k».proof.Proof.Records

@[expose] public section

noncomputable section

namespace Cert.KernelIdeal.Attn

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation)
open Cert.KernelIdeal Cert.KernelIdeal.Facts₀ Cert.KernelIdeal.Facts

variable {F : FTy → Type} [FloatOps F]

local notation "𝕄" => MT nD τ sig Unit (Elt F) ℕ UU ℕ

variable (ρ : Dev nD → PrngReg) (m : (ℓ : Loc nD τ sig) → Buf (Elt F) ℓ)

/-! ## The tokens -/

abbrev tokSem : Fin 14 ⊕ Bool → SemLoc sig × Bool
  | .inl k => (osem k, true)
  | .inr d => (.reg barrier0, d)
theorem tokSem_inj : Function.Injective tokSem := by decide

/-- One token for every duty of every cell. -/
def duties : Finset (GSem nD τ sig × ℕ × Bool) :=
  Finset.univ.map ⟨fun p : Dev nD × (Fin 14 ⊕ Bool) => (((p.1 : Thread nD τ), (tokSem p.2).1), 0, (tokSem p.2).2), fun _ _ h =>
    Prod.ext (congrArg (fun t : GSem nD τ sig × ℕ × Bool => t.1.1.1) h)
      (tokSem_inj (Prod.ext (congrArg (fun t : GSem nD τ sig × ℕ × Bool => t.1.2) h) (congrArg (fun t : GSem nD τ sig × ℕ × Bool => t.2.2) h)))⟩

/-- The device and cell whose duty a device pays. -/
def payee : Dev nD × Fin 14 ≃ Dev nD × Fin 14 :=
  ⟨fun p => (dest p.1 p.2, p.2), fun p => (if isRecv p.2 then prv p.1 else p.1, p.2), by decide, by decide⟩

/-- Every token to the device that pays with it. -/
theorem deal : (bigSep duties fun x => (dutyTok ER x.1 x.2.1 x.2.2 : sProp 𝕄)) ⊢ bigSep Finset.univ fun c : Dev nD => (pays c : sProp 𝕄) := by
  have hb (d : Bool) : (bigSep Finset.univ fun c : Dev nD => (dutyTok ER (bar c) 0 d : sProp 𝕄))
      = bigSep Finset.univ fun c : Dev nD => (dutyTok ER (bar (if d then prv c else nxt c)) 0 d : sProp 𝕄) := by
    cases d
    · exact bigSep_univ_equiv ring (fun c : Dev nD => (dutyTok ER (bar c) 0 false : sProp 𝕄))
    · exact bigSep_univ_equiv ringInv (fun c : Dev nD => (dutyTok ER (bar c) 0 true : sProp 𝕄))
  have hc : (bigSep Finset.univ fun c : Dev nD => bigSep Finset.univ fun k : Fin 14 => (dutyTok ER (cell c k) 0 true : sProp 𝕄))
      = bigSep Finset.univ fun c : Dev nD => bigSep Finset.univ fun k : Fin 14 => (dutyTok ER (cell (dest c k) k) 0 true : sProp 𝕄) := by
    rw [← bigSep_univ_prod (fun p : Dev nD × Fin 14 => (dutyTok ER (cell p.1 p.2) 0 true : sProp 𝕄)),
      bigSep_univ_equiv payee (fun p : Dev nD × Fin 14 => (dutyTok ER (cell p.1 p.2) 0 true : sProp 𝕄)), bigSep_univ_prod]
    rfl
  have h1 : (bigSep duties fun x => (dutyTok ER x.1 x.2.1 x.2.2 : sProp 𝕄))
      = bigSep Finset.univ fun c : Dev nD => iprop((bigSep Finset.univ fun k : Fin 14 => (dutyTok ER (cell c k) 0 true : sProp 𝕄))
        ∗ (dutyTok ER (bar c) 0 false : sProp 𝕄) ∗ (dutyTok ER (bar c) 0 true : sProp 𝕄)) := by
    unfold duties
    rw [bigSep_map, bigSep_univ_prod]
    refine bigSep_congr fun c _ => ?_
    rw [bigSep_univ_sum, show (Finset.univ : Finset Bool) = {false, true} from by decide, bigSep_insert (by decide), bigSep_singleton]
    rfl
  rw [h1, bigSep_sep', bigSep_sep', hc, hb false, hb true]
  unfold pays
  rw [bigSep_sep', bigSep_sep']
  exact BI.Entails.refl _

/-! ## The credit each device is owed -/

theorem cell_ne_bar (c d : Dev nD) (k : Fin 14) : cell c k ≠ bar d := fun h => osem_ne_bar k (congrArg Prod.snd h)
theorem recvIx_inj : Function.Injective fun s : Bool × Fin 3 => recvIx s.1 s.2 := by decide
theorem nxt_eq (c d : Dev nD) : nxt d = c ↔ d = prv c := by revert c d; decide
theorem prv_eq (c d : Dev nD) : prv d = c ↔ d = nxt c := by revert c d; decide

theorem due_bar (c d : Dev nD) (s : Bool × Fin 3) : due d s (bar c) () = 0 := by
  rw [tallyAt_apply, if_neg fun h => cell_ne_bar _ _ _ h.1.symm]
theorem due_cell (c d : Dev nD) (s t : Bool × Fin 3) : due d s (cell c (recvIx t.1 t.2)) () = if d = prv c ∧ s = t then N else 0 := by
  rw [tallyAt_apply]
  refine if_congr ⟨fun ⟨h, _⟩ => ⟨(nxt_eq c d).mp (congrArg (fun g : GSem nD τ sig => g.1.1) h).symm, ?_⟩, fun ⟨h, e⟩ => ⟨?_, rfl⟩⟩ rfl rfl
  · exact (recvIx_inj (osem_inj (congrArg Prod.snd h))).symm
  · rw [(nxt_eq c d).mpr h, e]

theorem dues_bar (c d : Dev nD) : (l : List (Bool × Fin 3)) → dues d l (bar c) () = 0
  | [] => rfl
  | s :: l => by
      show (dues d l + due d s) (bar c) () = 0
      rw [Pi.add_apply, Finsupp.add_apply, dues_bar c d l, due_bar]
theorem dues_cell (c d : Dev nD) (t : Bool × Fin 3) : (l : List (Bool × Fin 3)) →
    dues d l (cell c (recvIx t.1 t.2)) () = if d = prv c then l.count t * N else 0
  | [] => by
      show 0 = _
      rw [List.count_nil, Nat.zero_mul, ite_self]
  | s :: l => by
      show (dues d l + due d s) (cell c (recvIx t.1 t.2)) () = _
      rw [Pi.add_apply, Finsupp.add_apply, dues_cell c d t l, due_cell, List.count_cons]
      by_cases h : d = prv c
      · rw [if_pos h, if_pos h]
        by_cases e : s = t
        · rw [if_pos ⟨h, e⟩, if_pos (beq_iff_eq.mpr e), Nat.add_mul, Nat.one_mul]
        · rw [if_neg fun h' => e h'.2, if_neg fun h' => e (beq_iff_eq.mp h')]; rfl
      · rw [if_neg h, if_neg h, if_neg fun h' => h h'.1]

theorem bar_at (c d e : Dev nD) (n : ℕ) : (tallyAt (bar e) () n : CellTallies nD τ sig Unit) (bar c) () = if e = c then n else 0 := by
  rw [tallyAt_apply]
  exact if_congr ⟨fun h => (congrArg (fun g : GSem nD τ sig => g.1.1) h.1).symm, fun h => ⟨by rw [h], rfl⟩⟩ rfl rfl

theorem owed_bar (c d : Dev nD) : O₀ d (bar c) () = (if d = prv c then 1 else 0) + if d = nxt c then 1 else 0 := by
  unfold O₀ O₁
  rw [Pi.add_apply, Finsupp.add_apply, Pi.add_apply, Finsupp.add_apply, dues_bar, bar_at c d, bar_at c d, Nat.zero_add]
  exact congrArg₂ _ (if_congr (nxt_eq c d) rfl rfl) (if_congr (prv_eq c d) rfl rfl)
theorem owed_cell (c d : Dev nD) (t : Bool × Fin 3) : O₀ d (cell c (recvIx t.1 t.2)) () = if d = prv c then N else 0 := by
  unfold O₀ O₁
  rw [Pi.add_apply, Finsupp.add_apply, Pi.add_apply, Finsupp.add_apply, dues_cell,
    show (tallyAt (bar (nxt d)) () 1 : CellTallies nD τ sig Unit) (cell c (recvIx t.1 t.2)) () = 0 by
      rw [tallyAt_apply, if_neg fun h => cell_ne_bar _ _ _ h.1],
    show (tallyAt (bar (prv d)) () 1 : CellTallies nD τ sig Unit) (cell c (recvIx t.1 t.2)) () = 0 by
      rw [tallyAt_apply, if_neg fun h => cell_ne_bar _ _ _ h.1],
    show allHops.count t = 1 by revert t; decide, Nat.one_mul]
  exact (Nat.add_zero _).trans (Nat.add_zero _)

theorem launch_bar (c : Dev nD) :
    tallyOn (bar c) (launchCredit (Pipeline.owing O₀) 0 (bar c)) = (tallyAt (bar c) () 2 : CellTallies nD τ sig Unit) := by
  unfold tallyAt
  refine congrArg _ (Finsupp.ext fun u => ?_)
  cases u
  rw [Pipeline.launchCredit_owing, Finsupp.single_eq_same, Finset.sum_congr rfl fun d _ => owed_bar c d, Finset.sum_add_distrib,
    Finset.sum_ite_eq' Finset.univ (prv c) fun _ => 1, Finset.sum_ite_eq' Finset.univ (nxt c) fun _ => 1,
    if_pos (Finset.mem_univ _), if_pos (Finset.mem_univ _)]
theorem launch_cell (c : Dev nD) (t : Bool × Fin 3) :
    tallyOn (cell c (recvIx t.1 t.2)) (launchCredit (Pipeline.owing O₀) 0 (cell c (recvIx t.1 t.2)))
      = (tallyAt (cell c (recvIx t.1 t.2)) () N : CellTallies nD τ sig Unit) := by
  unfold tallyAt
  refine congrArg _ (Finsupp.ext fun u => ?_)
  cases u
  rw [Pipeline.launchCredit_owing, Finsupp.single_eq_same, Finset.sum_congr rfl fun d _ => owed_cell c d t,
    Finset.sum_ite_eq' Finset.univ (prv c) fun _ => N, if_pos (Finset.mem_univ _)]

abbrev recvEmb : Bool × Fin 3 ↪ SemLoc sig := ⟨fun s => osem (recvIx s.1 s.2), fun _ _ h => recvIx_inj (osem_inj h)⟩

theorem credit_in (c : Dev nD) : (Pipeline.launchCred O₀ c : sProp 𝕄) ⊢ dueIn c := by
  unfold Pipeline.launchCred dueIn
  rw [bigSep_univ_at _ (SemLoc.reg barrier0 : SemLoc sig), launch_bar]
  refine sep_mono_right ((bigSep_subset (t := Finset.univ.map recvEmb) fun sm hsm => ?_).trans ?_)
  · obtain ⟨s, -, rfl⟩ := Finset.mem_map.mp hsm
    exact Finset.mem_erase.mpr ⟨osem_ne_bar _, Finset.mem_univ _⟩
  · rw [bigSep_map]
    exact BI.bigSep_mono fun s _ => Entails.of_eq (congrArg (fun t => (cred t : sProp 𝕄)) (launch_cell c s))

/-! ## The launch -/

theorem cells_apart : Disjoint (barCells : Finset (GSem nD τ sig)) scCells := by
  rw [Finset.disjoint_left]
  rintro g h₁ h₂
  obtain ⟨c, -, rfl⟩ := Finset.mem_map.mp h₁
  obtain ⟨p, -, h⟩ := Finset.mem_map.mp h₂
  exact osem_ne_bar p.2 (congrArg Prod.snd h)

def u₀ : UU :=
  (initOf (Pipeline.cells (Pipeline.pin (pcfgs (F := F)) Gen.adm) Gen.cellOf_inj)
      (Pipeline.launchToks (Pipeline.pin (pcfgs (F := F)) Gen.adm) Gen.cellOf_inj),
    launchOf barCells scCells duties)

/-- The gather's launch resource, all of it with device 0 until it is dealt. -/
def G (c : Dev nD) : sProp (MT nD τ sig Unit (Elt F) ℕ UU ℕ) :=
  if c = 0 then BI.own (ER (launchOf barCells scCells duties)) else iprop(emp)
theorem G_all : bigSep Finset.univ (G (F := F)) = BI.own (ER (launchOf barCells scCells duties)) := by
  rw [bigSep_univ_at _ (0 : Dev nD), bigSep_congr (s := Finset.univ.erase (0 : Dev nD)) (Ψ := fun _ => (BI.emp : sProp 𝕄))
      fun c hc => by unfold G; rw [if_neg (Finset.ne_of_mem_erase hc)]; rfl, BI.bigSep_emp_const]
  unfold G
  rw [if_pos rfl]
  exact BI.equiv_iff.mp sep_emp

theorem unscoped_sems (c : Dev nD) : (unscopedSems0 c : sProp 𝕄) = semVal (bar c) 0 := by
  unfold unscopedSems0
  rw [show (Finset.univ.filter fun sm : SemLoc sig => ¬ sm.isScoped .tc) = {SemLoc.reg barrier0} from by decide, BI.bigSep_singleton]
theorem unscoped_sem : ∀ sm : SemLoc sig, sm.isScoped .tc = false → sm = .reg barrier0 := by decide

/-- A device's share of the launch that is not the gather's. -/
def base (c : Dev nD) : sProp (MT nD τ sig Unit (Elt F) ℕ UU ℕ) :=
  iprop(StableHlo.held (c : Thread nD τ) bufs (Gen.V0 m c) ∗ (∃ r, prngReg c r) ∗ dueIn c ∗ owing c (O₀ c))
/-- What is dealt to it of the gather's. -/
def dealt (c : Dev nD) : sProp (MT nD τ sig Unit (Elt F) ℕ UU ℕ) :=
  iprop(atPos ER (bar c) 0 ∅ 0 ∗ (bigSep Finset.univ fun k : Fin 14 => openTok ER (cell c k)) ∗ pays c)

theorem start_intro (κ : GSem nD τ sig → ℕ) (c : Dev nD) : iprop(records m κ ∗ (dealt c ∗ base m c)) ⊢ atStart m c := by
  unfold dealt base atStart kept
  iintro ⟨#HR, ⟨Ha, Ht, Hp⟩, Hh, Hg, Hd, HO⟩
  isplitl [Hh]; · iexact Hh
  isplitl [Hg]; · iexact Hg
  isplitr [HO]
  · isplitr; · iexists κ; iexact HR
    isplitl [Ht Ha]
    · isplitl [Ht] <;> iassumption
    isplitl [Hp] <;> iassumption
  iexact HO

/-- What the launch gives a device. -/
abbrev given (c : Dev nD) : sProp (MT nD τ sig Unit (Elt F) ℕ UU ℕ) :=
  iprop(unscopedBufs c (fun b => m ((c : Thread nD τ).loc b)) ∗ unscopedSems0 c ∗ owes (c : Thread nD τ) (O₀ c) ∅
    ∗ Pipeline.launchCred O₀ c ∗ prngReg c (ρ c) ∗ G c)

theorem given_split (c : Dev nD) : given ρ m c ⊢ (iprop(base m c ∗ (semVal (bar c) 0 ∗ G c)) : sProp 𝕄) := by
  unfold given
  rw [show (unscopedBufs c (fun b => m ((c : Thread nD τ).loc b)) : sProp 𝕄) = StableHlo.held (c : Thread nD τ) bufs (Gen.V0 m c) from
    Pipeline.unscopedBufs_held (Ix := Unit) (Name := ℕ) (U := UU) (Lvl := ℕ) c (Gen.V0 m c), unscoped_sems]
  unfold base owing
  iintro ⟨Hh, Hus, HO, Hcr, Hp, HG⟩
  ihave Hc := (credit_in (F := F) c) $$ Hcr
  isplitl [Hh Hc HO Hp]
  · isplitl [Hh]; · iexact Hh
    isplitl [Hp]; · iexists (ρ c); iexact Hp
    isplitl [Hc]; · iexact Hc
    iexists ∅; iexact HO
  isplitl [Hus] <;> iassumption

theorem start : iprop((bigSep Finset.univ fun c : Dev nD => given ρ m c) ∗ levAts L lv)
    ⊢ (|={Set.univ}=> bigSep Finset.univ (atStart m) : sProp 𝕄) := by
  have hv : bigSep Finset.univ (fun c : Dev nD => (semVal (bar c) 0 : sProp 𝕄)) ⊢ bigSep barCells (fun g => (semVal g 0 : sProp 𝕄)) :=
    Entails.of_eq (bigSep_map (s := Finset.univ) barEmb (Φ := fun g : GSem nD τ sig => (semVal g 0 : sProp 𝕄))).symm
  have hat : bigSep barCells (fun g => (atPos ER g 0 ∅ 0 : sProp 𝕄)) ⊢ bigSep Finset.univ (fun c : Dev nD => (atPos ER (bar c) 0 ∅ 0 : sProp 𝕄)) :=
    Entails.of_eq (bigSep_map (s := Finset.univ) barEmb (Φ := fun g : GSem nD τ sig => (atPos ER g 0 ∅ 0 : sProp 𝕄)))
  have hopen : bigSep scCells (fun g => (openTok ER g : sProp 𝕄))
      ⊢ bigSep Finset.univ (fun c : Dev nD => bigSep Finset.univ fun k : Fin 14 => (openTok ER (cell c k) : sProp 𝕄)) :=
    Entails.of_eq (by rw [bigSep_map, bigSep_univ_prod]; rfl)
  have hsplit : (bigSep Finset.univ fun c : Dev nD => (given ρ m c : sProp 𝕄))
      ⊢ iprop((bigSep Finset.univ fun c : Dev nD => (base m c : sProp 𝕄)) ∗ (bigSep Finset.univ fun c : Dev nD => (semVal (bar c) 0 : sProp 𝕄))
        ∗ bigSep Finset.univ fun c : Dev nD => (G c : sProp 𝕄)) := by
    rw [← bigSep_sep', ← bigSep_sep']
    exact bigSep_mono fun c _ => given_split ρ m c
  iintro ⟨H, -⟩
  ihave H' := hsplit $$ H
  icases H' with ⟨HB, Hv, HG⟩
  ihave Hu := (Entails.of_eq (G_all (F := F))) $$ HG
  imod (Rounds.fund_launch ER (gatherRd m) cells_apart (fun g _ h => h) duties) $$ [Hv Hu] with ⟨%κ, -, #Hinv, #Hr, Hat, Hopen, Htok⟩
  · isplitl [Hv]
    · iapply hv $$ Hv
    · iexact Hu
  imodintro
  iapply (bigSep_with_persistent (R := records m κ) (Φ := fun c => iprop(dealt c ∗ base m c)) fun c _ => start_intro m κ c)
  isplitr
  · unfold records
    isplitr; · iexact Hinv
    iexact Hr
  rw [bigSep_sep']
  isplitr [HB]
  · unfold dealt
    rw [bigSep_sep', bigSep_sep']
    isplitl [Hat]; · iapply hat $$ Hat
    isplitl [Hopen]; · iapply hopen $$ Hopen
    iapply (deal (F := F)) $$ Htok
  · iexact HB

/-! ## The run -/

/-- Whatever buffer of @main holds at the end, it holds as `V₂` says. -/
theorem buf_mem (r : Ref sig .tc) (h : r.isScoped = false) : (Proc.devRef .tc r : DevRef τ sig) ∈ bufs :=
  Finset.mem_filter.mpr ⟨StableHlo.devRef_mem_tcRefs r, fun h' => Bool.false_ne_true (h.symm.trans h')⟩

set_option backward.isDefEq.respectTransparency.types false in
/-- From any memory with zero counters, every weakly fair execution on the four devices terminates with every buffer of @main
    as `V₂` says and every counter at zero. -/
theorem run_main : θ_run defs (onTc (τ := τ) (main (F := F))) ⟨m, fun _ => 0, ρ⟩
    (fun r => (∀ (c : Dev nD) (b : Ref sig .tc), b.isScoped = false → r.2.mem ((c : Thread nD τ).loc b) = V₂ m c b) ∧ r.2.sem = fun _ => 0) :=
  Pipeline.θ_run_regions_kit_sems (pcfgs (F := F)) Gen.adm (pdats m) () Gen.cellOf_inj EP defs₀ 𝒱₀ L lv m ρ main
    [.region (reg0 m), .region (reg1 m)]
    (fun c Q => by rw [Gen.main_segs Gen.adm (pdats m) () 𝒱₀ L lv (reg0 m) (reg1 m) c])
    (by simp only [Pipeline.Seg.pipes_region, Pipeline.Seg.pipes_nil]; decide)
    (O₀ := O₀) (hL := L_of_ne) (G := G) (u₀ := u₀)
    (hu₀ := by
      unfold u₀
      iintro Hu
      ihave H := (ownU_pair _ _) $$ Hu
      icases H with ⟨HP, HX⟩
      imodintro
      isplitl [HP]; · iexact HP
      rw [G_all]; iexact HX)
    (T₀ := atStart m) (Tₙ := atEnd m)
    (hch := ⟨fun c => reg0_pre m c, fun c => (reg0_post m c).trans (reg1_pre m c), fun c => reg1_post m c⟩)
    (hinit := start ρ m)
    (QY := fun c s => (∀ b ∈ bufs, s.mem (c, b) = V₂ m c b) ∧ s.sem (bar c) = 0)
    (hfin := fun c s' => by
      unfold atEnd StableHlo.held
      iintro ⟨⟨Hh, Hb0⟩, HSI⟩
      icombine HSI Hb0 gives %hb
      ihave Hr := (pointsTo_read_all bufs (fun b => ((c : Thread nD τ).1, b)) (V₂ m c) s') $$ [Hh HSI]
      · isplitl [Hh] <;> iassumption
      icases Hr with ⟨%h, HSI⟩
      imodintro
      isplitr
      · ipureintro
        exact ⟨h, by simpa using hb⟩
      iexact HSI)
    (hQ := fun s h hs => ⟨fun c b hb => (h c).1 _ (buf_mem b hb),
      sem_eq_zero hs fun c sm hsm => by
        obtain rfl := unscoped_sem sm hsm
        exact (h c).2⟩)

end Cert.KernelIdeal.Attn

end
-- ==== Proof.Frames.lean ====
/- The three frames. -/
module

public import proofs.«01_k».proof.Defs
public import proofs.«01_k».proof.Proof.Gen.Kernel
public import proofs.«01_k».proof.Proof.Gen.ReferenceIdeal.Run
public import proofs.«01_k».proof.Proof.Whole

@[expose] public section

noncomputable section

namespace Cert.Proof

open Idealize.ShloMosaic Idealize.ShloMosaic.TcCoe Idealize.SL.Sem

/-- The arguments are among the buffers that no call writes. -/
theorem kept_args {F : FTy → Type} [FloatOps F] (m : (ℓ : Loc Cert.KernelIdeal.nD Cert.KernelIdeal.τ Cert.KernelIdeal.sig) → Buf (Elt F) ℓ)
    (c : Dev Cert.KernelIdeal.nD) (r : Ref Cert.KernelIdeal.sig .tc) (ho : r ≠ Cert.KernelIdeal.main_v2) (hk : r ≠ Cert.KernelIdeal.main_v1_0)
    (hv : r ≠ Cert.KernelIdeal.main_v1_1) :
    Cert.KernelIdeal.Attn.V₂ m c r = m ((c : Thread Cert.KernelIdeal.nD Cert.KernelIdeal.τ).loc r) :=
  (Cert.KernelIdeal.Attn.V₂_of m c r ho).trans (Cert.KernelIdeal.Attn.V₁_of m c r hk hv)

/-- The run over any float values, read at the arguments. -/
theorem frame_any {F : FTy → Type} [FloatOps F] (m : (ℓ : Loc Cert.KernelIdeal.nD Cert.KernelIdeal.τ Cert.KernelIdeal.sig) → Buf (Elt F) ℓ)
    (ρ : Dev Cert.KernelIdeal.nD → PrngReg) :
    θ_run Cert.KernelIdeal.defs (onTc (τ := Cert.KernelIdeal.τ) (Cert.KernelIdeal.main (F := F))) ⟨m, fun _ => 0, ρ⟩
      (fun r => (∀ c : Dev Cert.KernelIdeal.nD,
        r.2.mem ((c : Thread Cert.KernelIdeal.nD Cert.KernelIdeal.τ).loc Cert.KernelIdeal.main_arg0) = m ((c : Thread Cert.KernelIdeal.nD Cert.KernelIdeal.τ).loc Cert.KernelIdeal.main_arg0)
        ∧ r.2.mem ((c : Thread Cert.KernelIdeal.nD Cert.KernelIdeal.τ).loc Cert.KernelIdeal.main_arg1) = m ((c : Thread Cert.KernelIdeal.nD Cert.KernelIdeal.τ).loc Cert.KernelIdeal.main_arg1)
        ∧ r.2.mem ((c : Thread Cert.KernelIdeal.nD Cert.KernelIdeal.τ).loc Cert.KernelIdeal.main_arg2) = m ((c : Thread Cert.KernelIdeal.nD Cert.KernelIdeal.τ).loc Cert.KernelIdeal.main_arg2))
        ∧ r.2.sem = fun _ => 0) :=
  (θ_run Cert.KernelIdeal.defs _ _).mono (fun _ h => ⟨fun c =>
    ⟨(h.1 c _ (by decide)).trans (kept_args m c Cert.KernelIdeal.main_arg0 (by decide) (by decide) (by decide)),
      (h.1 c _ (by decide)).trans (kept_args m c Cert.KernelIdeal.main_arg1 (by decide) (by decide) (by decide)),
      (h.1 c _ (by decide)).trans (kept_args m c Cert.KernelIdeal.main_arg2 (by decide) (by decide) (by decide))⟩, h.2⟩)
    (Cert.KernelIdeal.Attn.run_main ρ m)

theorem frame_ideal : Cert.quiescent_KernelIdeal := fun m ρ _ => frame_any (F := Ideal) m ρ

/-- Both programs' bodies are the same text. -/
theorem bodies_same : Cert.Kernel.defs₀ (F := Bits) = Cert.KernelIdeal.defs₀ (F := Bits) := by
  unfold Cert.Kernel.defs₀ Cert.KernelIdeal.defs₀
  refine congrArg _ ?_
  funext l a
  match l with
  | ⟨0, _⟩ => rfl
  | ⟨1, _⟩ => rfl
theorem defs_same : Cert.Kernel.defs (F := Bits) = Cert.KernelIdeal.defs (F := Bits) :=
  congrArg (Pipeline.defs Cert.KernelIdeal.pcfgs) bodies_same

theorem frame_kernel : Cert.quiescent_Kernel := fun m ρ _ =>
  (congrArg (fun D : Defs Cert.KernelIdeal.nD Cert.KernelIdeal.τ Cert.KernelIdeal.sig (Elt Bits) _ =>
    θ_run D (onTc (τ := Cert.KernelIdeal.τ) (Cert.KernelIdeal.main (F := Bits))) ⟨m, fun _ => 0, ρ⟩ _) defs_same).mpr (frame_any (F := Bits) m ρ)

theorem frame_reference : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

end Cert.Proof

end
-- ==== Proof.Softmax.lean ====
/- One attention head as a function of its query, keys and values; the kernel's head and the reference's result are it. -/
module

public import proofs.«01_k».proof.Proof.Attend
public import proofs.«01_k».proof.Proof.Gen.ReferenceIdeal.Run
public import Idealize.ShloMosaic.Lib.Pointwise

@[expose] public section

set_option maxRecDepth 16384

noncomputable section

namespace Cert.Attention

open Idealize.ShloMosaic Idealize.ShloMosaic.Pointwise

/-- The score of key `j`: its product with the query, over eight. -/
def score (q : Fin 64 → EReal) (k : Fin 1024 → Fin 64 → EReal) (j : Fin 1024) : EReal :=
  (∑ e, q e * k j e) * Ideal.ofBits FTy.f32 0x3E000000#32

/-- The exponential of a score, less the greatest. -/
def weight (q : Fin 64 → EReal) (k : Fin 1024 → Fin 64 → EReal) (j : Fin 1024) : EReal :=
  Ideal.exp (score q k j - Finset.univ.fold max (Ideal.ofBits FTy.f32 0xFF800000#32) (score q k))

/-- Attention's output at one coordinate: the values there, weighted. -/
def attention (q : Fin 64 → EReal) (k : Fin 1024 → Fin 64 → EReal) (v : Fin 1024 → EReal) : EReal :=
  ∑ j, Ideal.div (weight q k j) (∑ i, weight q k i) * v j

theorem attention_congr {q q' : Fin 64 → EReal} {k k' : Fin 1024 → Fin 64 → EReal} {v v' : Fin 1024 → EReal} (hq : ∀ e, q e = q' e)
    (hk : ∀ j e, k j e = k' j e) (hv : ∀ j, v j = v' j) : attention q k v = attention q' k' v' := by
  rw [funext hq, funext fun j => funext (hk j), funext hv]

/-- The device and the place there of a position of the sequence. -/
def owner (j : Fin 1024) : Fin 4 := ⟨j.val / 256, by have := j.isLt; omega⟩
def place (j : Fin 1024) : Fin 256 := ⟨j.val % 256, Nat.mod_lt _ (by decide)⟩

theorem four_blocks {f : Fin 4 → Fin 256 → EReal} (j : Fin 1024) :
    (if h : j.val < 256 then f 0 ⟨j.val, h⟩
      else if h : j.val - 256 < 256 then f 1 ⟨j.val - 256, h⟩
      else if h : j.val - 256 - 256 < 256 then f 2 ⟨j.val - 256 - 256, h⟩
      else f 3 ⟨j.val - 256 - 256 - 256, by have := j.isLt; omega⟩) = f (owner j) (place j) := by
  have hj := j.isLt
  have key (o : Fin 4) (p : Fin 256) (h : j.val = 256 * o.val + p.val) : f o p = f (owner j) (place j) := by
    have hp := p.isLt
    rw [show owner j = o from Fin.ext (by show j.val / 256 = o.val; omega), show place j = p from Fin.ext (by show j.val % 256 = p.val; omega)]
  split
  · exact key 0 _ (by show j.val = 256 * 0 + j.val; omega)
  split
  · exact key 1 _ (by show j.val = 256 * 1 + (j.val - 256); omega)
  split
  · exact key 2 _ (by show j.val = 256 * 2 + (j.val - 256 - 256); omega)
  · exact key 3 _ (by show j.val = 256 * 3 + (j.val - 256 - 256 - 256); omega)

section Kernel
open Cert.KernelIdeal Cert.KernelIdeal.Gen

theorem keys_apply (k : Fin 4 → Vec Ideal S1x1x256x1x64 .f32) (j : Fin 1024) (e : Fin 64) :
    Gen.k1_pay2 (F := Ideal) (k 0) (k 1) (k 2) (k 3) (ix2 j e) = k (owner j) (ix5 0 0 (place j) 0 e) := by
  pointwise [Gen.k1_pay2]
  exact four_blocks (f := fun o p => k o (ix5 0 0 p 0 e)) j

theorem query_apply (q : Vec Ideal S1x256x1x64 .f32) (s : Fin 256) (e : Fin 64) :
    Gen.k1_pay1 (F := Ideal) q (ix2 s e) = q (ix4 0 s 0 e) := by
  pointwise [Gen.k1_pay1]

theorem product_apply (q : Vec Ideal S256x64 .f32) (k : Vec Ideal S1024x64 .f32) (v : Fin 4 → Vec Ideal S1x1x256x1x64 .f32) (s : Fin 256) (e : Fin 64) :
    Gen.k1_pay6 (F := Ideal) q k (Gen.k1_pay3 (v 0)) (Gen.k1_pay4 (v 1)) (Gen.k1_pay5 (v 2)) (v 3) (ix4 0 s 0 e)
      = attention (fun e => q (ix2 s e)) (fun j e => k (ix2 j e)) fun j => v (owner j) (ix5 0 0 (place j) 0 e) := by
  pointwise [Gen.k1_pay6, Gen.k1_pay3, Gen.k1_pay4, Gen.k1_pay5]
  unfold attention weight score
  exact Finset.sum_congr rfl fun j _ => congrArg _ (four_blocks (f := fun o p => v o (ix5 0 0 p 0 e)) j)

/-- The kernel's head at an index. -/
theorem head_apply (q : Vec Ideal S1x256x1x64 .f32) (k v : Fin 4 → Vec Ideal S1x1x256x1x64 .f32) (s : Fin 256) (e : Fin 64) :
    Attn.headOf (F := Ideal) q k v (ix4 0 s 0 e)
      = attention (fun e => q (ix4 0 s 0 e)) (fun j e => k (owner j) (ix5 0 0 (place j) 0 e)) fun j => v (owner j) (ix5 0 0 (place j) 0 e) := by
  unfold Attn.headOf
  rw [product_apply]
  simp only [query_apply, keys_apply]

end Kernel

section Reference
open Cert.ReferenceIdeal Cert.ReferenceIdeal.Gen

/-- The reference's result, of its arguments. -/
def result (q k v : FVec Ideal S4x1024x16x64 .f32) : FVec Ideal S4x1024x16x64 .f32 :=
  transpose S4x1024x16x64 [0, 3, 1, 2] (Host.dotGeneral dot_S4x1024x16x64_S4x16x1024x1024_S4x16x64x1024_1_3_3_2_02_01 none v (Host.divf (Host.exp (subf (mulf (Host.dotGeneral dot_S4x1024x16x64_S4x1024x16x64_S4x16x1024x1024_3_3_1_1_02_02 none q k) (broadcastInDim S4x16x1024x1024 ![] bcast_S_S4x16x1024x1024 (constant S_ .f32 0x3E000000#32))) (broadcastInDim S4x16x1024x1024 ![0, 1, 2, 3] bcast_S4x16x1024x1_S4x16x1024x1024_0_1_2_3 (broadcastInDim S4x16x1024x1 ![0, 1, 2] bcast_S4x16x1024_S4x16x1024x1_0_1_2 (Host.reduce FloatOps.maximumf (mulf (Host.dotGeneral dot_S4x1024x16x64_S4x1024x16x64_S4x16x1024x1024_3_3_1_1_02_02 none q k) (broadcastInDim S4x16x1024x1024 ![] bcast_S_S4x16x1024x1024 (constant S_ .f32 0x3E000000#32))) (constant S_ .f32 0xFF800000#32) reducesTo_S4x16x1024x1024_S4x16x1024_d3 h_S_))))) (broadcastInDim S4x16x1024x1024 ![0, 1, 2, 3] bcast_S4x16x1024x1_S4x16x1024x1024_0_1_2_3 (broadcastInDim S4x16x1024x1 ![0, 1, 2] bcast_S4x16x1024_S4x16x1024x1_0_1_2 (Host.reduceAdd (Host.exp (subf (mulf (Host.dotGeneral dot_S4x1024x16x64_S4x1024x16x64_S4x16x1024x1024_3_3_1_1_02_02 none q k) (broadcastInDim S4x16x1024x1024 ![] bcast_S_S4x16x1024x1024 (constant S_ .f32 0x3E000000#32))) (broadcastInDim S4x16x1024x1024 ![0, 1, 2, 3] bcast_S4x16x1024x1_S4x16x1024x1024_0_1_2_3 (broadcastInDim S4x16x1024x1 ![0, 1, 2] bcast_S4x16x1024_S4x16x1024x1_0_1_2 (Host.reduce FloatOps.maximumf (mulf (Host.dotGeneral dot_S4x1024x16x64_S4x1024x16x64_S4x16x1024x1024_3_3_1_1_02_02 none q k) (broadcastInDim S4x16x1024x1024 ![] bcast_S_S4x16x1024x1024 (constant S_ .f32 0x3E000000#32))) (constant S_ .f32 0xFF800000#32) reducesTo_S4x16x1024x1024_S4x16x1024_d3 h_S_))))) (constant S_ .f32 0x00000000#32) reducesTo_S4x16x1024x1024_S4x16x1024_d3 h_S_))))) transposes_S4x16x64x1024_S4x1024x16x64_0_3_1_2

theorem result_apply (q k v : FVec Ideal S4x1024x16x64 .f32) (b : Fin 4) (t : Fin 1024) (h : Fin 16) (e : Fin 64) :
    result q k v (ix4 b t h e) = attention (fun e => q (ix4 b t h e)) (fun j e => k (ix4 b j h e)) fun j => v (ix4 b j h e) := by
  pointwise [result]
  unfold attention weight score
  exact Finset.sum_congr rfl fun j _ => mul_comm _ _

end Reference

end Cert.Attention

end
-- ==== Proof.Value.lean ====
/- What each device's result holds after the run, element by element. -/
module

public import proofs.«01_k».proof.Proof.Whole
public import proofs.«01_k».proof.Proof.Softmax

@[expose] public section

noncomputable section

namespace Cert.KernelIdeal.Attn

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation)
open Cert.KernelIdeal Cert.KernelIdeal.Facts₀ Cert.KernelIdeal.Facts

variable {F : FTy → Type} [FloatOps F]

local notation "𝕄" => MT nD τ sig Unit (Elt F) ℕ UU ℕ

variable (m : (ℓ : Loc nD τ sig) → Buf (Elt F) ℓ)

open Cert.Attention (attention owner place)

/-! ## The attention's block, at an index -/

theorem ix4_of (y : S1x256x16x64.Idx) (h : Fin 16) (e : (y 2).val = h.val) : y = ix4 (0 : Fin 1) (⟨(y 1).val, (y 1).isLt⟩ : Fin 256) h (⟨(y 3).val, (y 3).isLt⟩ : Fin 64) := by
  funext a
  have h0 : (y 0).val < 1 := (y 0).isLt
  fin_cases a
  · exact Fin.ext (by show (y 0).val = 0; omega)
  · rfl
  · exact Fin.ext e
  · rfl

theorem ld_q (x : Vec F S1x256x16x64 .f32) (h : Fin 16) (s : Fin 256) (e : Fin 64) :
    (View.ld x (rQ h) : Vec F S1x256x1x64 .f32) (ix4 0 s 0 e) = x (ix4 0 s h e) := by
  refine congrArg x (funext fun a => Fin.ext ?_)
  fin_cases a
  · rfl
  · show 0 + 1 * s.val = s.val; omega
  · show h.val + 1 * 0 = h.val; omega
  · show 0 + 1 * e.val = e.val; omega
theorem ld_k (x : Vec F S4x1x256x16x64 .f32) (o : Fin 4) (h : Fin 16) (s : Fin 256) (e : Fin 64) :
    (View.ld x (rK o h) : Vec F S1x1x256x1x64 .f32) (ix5 0 0 s 0 e) = x (ix5 o 0 s h e) := by
  refine congrArg x (funext fun a => Fin.ext ?_)
  fin_cases a
  · show o.val + 1 * 0 = o.val; omega
  · rfl
  · show 0 + 1 * s.val = s.val; omega
  · show h.val + 1 * 0 = h.val; omega
  · show 0 + 1 * e.val = e.val; omega

theorem attended_at (x0 : Vec F S1x256x16x64 .f32) (x1 x2 : Vec F S4x1x256x16x64 .f32) (s : Fin 256) (h : Fin 16) (e : Fin 64) :
    attended x0 x1 x2 (ix4 0 s h e) = headF x0 x1 x2 h (ix4 0 s 0 e) := by
  unfold attended
  refine View.canon_apply_of_pieces (fun y : S1x256x16x64.Idx => headF x0 x1 x2 ⟨(y 2).val, (y 2).isLt⟩
    (ix4 0 (⟨(y 1).val, (y 1).isLt⟩ : Fin 256) 0 (⟨(y 3).val, (y 3).isLt⟩ : Fin 64))) _ (fun p hp x => ?_) _ (pieces_cover _ _)
  obtain ⟨g, -, rfl⟩ := List.mem_map.mp hp
  have h2 : (x 2).val < 1 := (x 2).isLt
  have h0 : (x 0).val < 1 := (x 0).isLt
  have hg : (⟨(((rQ g).emb x) 2).val, (((rQ g).emb x) 2).isLt⟩ : Fin 16) = g := Fin.ext (by show g.val + 1 * (x 2).val = g.val; omega)
  show headF x0 x1 x2 g x = headF x0 x1 x2 ⟨(((rQ g).emb x) 2).val, (((rQ g).emb x) 2).isLt⟩ _
  rw [hg]
  refine congrArg _ (funext fun a => Fin.ext ?_)
  fin_cases a
  · show (x 0).val = 0; omega
  · show (x 1).val = 0 + 1 * (x 1).val; omega
  · show (x 2).val = 0; omega
  · show (x 3).val = 0 + 1 * (x 3).val; omega

theorem attended_apply (x0 : Vec Ideal S1x256x16x64 .f32) (x1 x2 : Vec Ideal S4x1x256x16x64 .f32) (s : Fin 256) (h : Fin 16) (e : Fin 64) :
    attended (F := Ideal) x0 x1 x2 (ix4 0 s h e)
      = attention (fun e => x0 (ix4 0 s h e)) (fun j e => x1 (ix5 (owner j) 0 (place j) h e)) fun j => x2 (ix5 (owner j) 0 (place j) h e) := by
  rw [attended_at]
  unfold headF
  rw [Cert.Attention.head_apply]
  exact Cert.Attention.attention_congr (fun e => ld_q x0 h s e) (fun j e => ld_k x1 (owner j) h (place j) e) fun j => ld_k x2 (owner j) h (place j) e

/-! ## The windows' blocks, at an index -/

/-- A grid point's batch. -/
def point (t : Fin cfg1.N) : Fin 4 := ⟨t.val, t.isLt⟩

theorem index_q : ∀ (t : Fin grid1.N) (a : Fin 4), win1_0.index t a = if a = 0 then t.val else 0 := by decide
theorem index_k : ∀ (t : Fin grid1.N) (a : Fin 5), win1_1.index t a = if a = 1 then t.val else 0 := by decide
theorem index_v : ∀ (t : Fin grid1.N) (a : Fin 5), win1_2.index t a = if a = 1 then t.val else 0 := by decide
theorem index_o : ∀ (t : Fin grid1.N) (a : Fin 4), win1_3.index t a = if a = 0 then t.val else 0 := by decide

theorem blockIn_q (c : Dev nD) (t : Fin cfg1.N) (s : Fin 256) (h : Fin 16) (e : Fin 64) :
    (blockIn m c 0 t : Vec F S1x256x16x64 .f32) (ix4 0 s h e) = (V₁ m c main_arg0 : S4x256x16x64.Idx → F .f32) (ix4 (point t) s h e) := by
  refine congrArg (V₁ m c main_arg0 : S4x256x16x64.Idx → F .f32) (funext fun a => Fin.ext ?_)
  refine (win1_0.rect_emb_val t (ix4 0 s h e) a).trans ((congrArg (fun n => n * win1_0.size a + ((ix4 (0 : Fin 1) s h e) a).val) (index_q t a)).trans ?_)
  fin_cases a
  · show t.val * 1 + 0 = t.val; omega
  · show 0 * 256 + s.val = s.val; omega
  · show 0 * 16 + h.val = h.val; omega
  · show 0 * 64 + e.val = e.val; omega
theorem blockIn_k (c : Dev nD) (t : Fin cfg1.N) (o : Fin 4) (s : Fin 256) (h : Fin 16) (e : Fin 64) :
    (blockIn m c 1 t : Vec F S4x1x256x16x64 .f32) (ix5 o 0 s h e) = (V₁ m c main_v1_0 : S4x4x256x16x64.Idx → F .f32) (ix5 o (point t) s h e) := by
  refine congrArg (V₁ m c main_v1_0 : S4x4x256x16x64.Idx → F .f32) (funext fun a => Fin.ext ?_)
  refine (win1_1.rect_emb_val t (ix5 o 0 s h e) a).trans ((congrArg (fun n => n * win1_1.size a + ((ix5 o (0 : Fin 1) s h e) a).val) (index_k t a)).trans ?_)
  fin_cases a
  · show 0 * 4 + o.val = o.val; omega
  · show t.val * 1 + 0 = t.val; omega
  · show 0 * 256 + s.val = s.val; omega
  · show 0 * 16 + h.val = h.val; omega
  · show 0 * 64 + e.val = e.val; omega
theorem blockIn_v (c : Dev nD) (t : Fin cfg1.N) (o : Fin 4) (s : Fin 256) (h : Fin 16) (e : Fin 64) :
    (blockIn m c 2 t : Vec F S4x1x256x16x64 .f32) (ix5 o 0 s h e) = (V₁ m c main_v1_1 : S4x4x256x16x64.Idx → F .f32) (ix5 o (point t) s h e) := by
  refine congrArg (V₁ m c main_v1_1 : S4x4x256x16x64.Idx → F .f32) (funext fun a => Fin.ext ?_)
  refine (win1_2.rect_emb_val t (ix5 o 0 s h e) a).trans ((congrArg (fun n => n * win1_2.size a + ((ix5 o (0 : Fin 1) s h e) a).val) (index_v t a)).trans ?_)
  fin_cases a
  · show 0 * 4 + o.val = o.val; omega
  · show t.val * 1 + 0 = t.val; omega
  · show 0 * 256 + s.val = s.val; omega
  · show 0 * 16 + h.val = h.val; omega
  · show 0 * 64 + e.val = e.val; omega

/-! ## The result, at an index -/

theorem apart3 (t t' : Fin cfg1.N) (_ : (cfg1.win 3).flush t = true) (_ : (cfg1.win 3).flush t' = true) (h : t ≠ t') :
    Disjoint ((cfg1.win 3).blk t).view.set ((cfg1.win 3).blk t').view.set :=
  (cfg1.win 3).disjoint_blk (fun e => h (Fin.ext (((index_o t 0).symm.trans (congrFun e (0 : Fin 4))).trans (index_o t' 0)))) rfl

theorem out_at (c : Dev nD) (t : Fin cfg1.N) (s : Fin 256) (h : Fin 16) (e : Fin 64) :
    (V₂ m c main_v2 : S4x256x16x64.Idx → F .f32) (ix4 (point t) s h e)
      = attended (blockIn m c 0 t) (blockIn m c 1 t) (blockIn m c 2 t) (ix4 0 s h e) := by
  rw [V₂_out]
  have hb := congrFun ((dat1 m c).read_blk_arrAt_eq_flushed 3 apart3 cfg1.N t t.isLt (Gen.flush1_3 t)) (ix4 0 s h e)
  refine (congrArg ((dat1 m c).arrAt 3 cfg1.N : S4x256x16x64.Idx → F .f32) (funext fun a => Fin.ext ?_)).trans (hb.trans ?_)
  · refine Eq.trans ?_ ((congrArg (fun n => n * win1_3.size a + ((ix4 (0 : Fin 1) s h e) a).val) (index_o t a)).symm.trans (win1_3.rect_emb_val t (ix4 0 s h e) a).symm)
    fin_cases a
    · show t.val = t.val * 1 + 0; omega
    · show s.val = 0 * 256 + s.val; omega
    · show h.val = 0 * 16 + h.val; omega
    · show e.val = 0 * 64 + e.val; omega
  · unfold Dat.flushed
    rw [leaves3]
    rfl

/-- The gathered keys and values: device `o`'s, in slot `o`. -/
theorem gathered_k (c : Dev nD) (o b : Fin 4) (s : Fin 256) (h : Fin 16) (e : Fin 64) :
    (V₁ m c main_v1_0 : S4x4x256x16x64.Idx → F .f32) (ix5 o b s h e) = (m (((o : Dev nD) : Thread nD τ).loc main_arg1) : S4x256x16x64.Idx → F .f32) (ix4 b s h e) := by
  rw [V₁_k]
  exact (gathOf_at (ownK m) o (ix5 o b s h e) (ix4 b s h e) rfl (funext fun a => by fin_cases a <;> rfl)).symm
theorem gathered_v (c : Dev nD) (o b : Fin 4) (s : Fin 256) (h : Fin 16) (e : Fin 64) :
    (V₁ m c main_v1_1 : S4x4x256x16x64.Idx → F .f32) (ix5 o b s h e) = (m (((o : Dev nD) : Thread nD τ).loc main_arg2) : S4x256x16x64.Idx → F .f32) (ix4 b s h e) := by
  rw [V₁_v]
  exact (gathOf_at (ownV m) o (ix5 o b s h e) (ix4 b s h e) rfl (funext fun a => by fin_cases a <;> rfl)).symm

/-- Device `c`'s result: attention of its own queries over every device's keys and values. -/
theorem device_result (m : (ℓ : Loc nD τ sig) → Buf (Elt Ideal) ℓ) (c : Dev nD) (b : Fin 4) (s : Fin 256) (h : Fin 16) (e : Fin 64) :
    (V₂ m c main_v2 : S4x256x16x64.Idx → EReal) (ix4 b s h e)
      = attention (fun e => (m ((c : Thread nD τ).loc main_arg0) : S4x256x16x64.Idx → EReal) (ix4 b s h e))
          (fun j e => (m (((owner j : Dev nD) : Thread nD τ).loc main_arg1) : S4x256x16x64.Idx → EReal) (ix4 b (place j) h e))
          fun j => (m (((owner j : Dev nD) : Thread nD τ).loc main_arg2) : S4x256x16x64.Idx → EReal) (ix4 b (place j) h e) := by
  refine (out_at m c ⟨b.val, b.isLt⟩ s h e).trans ((attended_apply _ _ _ s h e).trans (Cert.Attention.attention_congr (fun e => ?_) (fun j e => ?_) fun j => ?_))
  · refine (blockIn_q m c _ s h e).trans ?_
    rw [V₁_of m c main_arg0 (by decide) (by decide)]
    rfl
  · exact (blockIn_k m c _ (owner j) (place j) h e).trans (gathered_k m c (owner j) b (place j) h e)
  · exact (blockIn_v m c _ (owner j) (place j) h e).trans (gathered_v m c (owner j) b (place j) h e)

end Cert.KernelIdeal.Attn

end
-- ==== Proof.Same.lean ====
/- Kernel and reference compute the same function over the extended reals. -/
module

public import proofs.«01_k».proof.Proof.Frames
public import proofs.«01_k».proof.Proof.Value

@[expose] public section

noncomputable section

namespace Cert.Proof

open Idealize.ShloMosaic Idealize.ShloMosaic.TcCoe Idealize.SL.Sem
open Cert.Attention (attention owner place result)

/-- One device's part of an array, and the array. -/
abbrev Part : Shape := ⟨4, ![4, 256, 16, 64]⟩
abbrev All : Shape := ⟨4, ![4, 1024, 16, 64]⟩

/-- The place in the whole sequence of place `s` of device `c`'s part. -/
def global (c : Fin 4) (s : Fin 256) : Fin 1024 := ⟨256 * c.val + s.val, by have := c.isLt; have := s.isLt; omega⟩
theorem global_owner (j : Fin 1024) : global (owner j) (place j) = j := Fin.ext (Nat.div_add_mod j.val 256)

theorem part_at (c : Fin 4) (v : All.Idx → EReal) (b : Fin 4) (s : Fin 256) (h : Fin 16) (e : Fin 64) :
    Layout.block Part All 1 4 c v (by decide) (ix4 b s h e) = v (ix4 b (global c s) h e) := by
  refine congrArg v (funext fun a => Fin.ext ?_)
  refine (Layout.Tiles.idx_val (by decide) c (ix4 b s h e) a).trans ?_
  fin_cases a
  · rfl
  · show c.val * 256 + s.val = 256 * c.val + s.val; omega
  · rfl
  · rfl

/-- Device `c`'s result is its part of the reference's. -/
theorem parts_agree (m : (ℓ : Loc Cert.KernelIdeal.nD Cert.KernelIdeal.τ Cert.KernelIdeal.sig) → Buf (Elt Ideal) ℓ) (q k v : All.Idx → EReal)
    (hq : ∀ c : Dev Cert.KernelIdeal.nD, m ((c : Thread Cert.KernelIdeal.nD Cert.KernelIdeal.τ).loc Cert.KernelIdeal.main_arg0) = Layout.block Part All 1 4 c q)
    (hk : ∀ c : Dev Cert.KernelIdeal.nD, m ((c : Thread Cert.KernelIdeal.nD Cert.KernelIdeal.τ).loc Cert.KernelIdeal.main_arg1) = Layout.block Part All 1 4 c k)
    (hv : ∀ c : Dev Cert.KernelIdeal.nD, m ((c : Thread Cert.KernelIdeal.nD Cert.KernelIdeal.τ).loc Cert.KernelIdeal.main_arg2) = Layout.block Part All 1 4 c v)
    (c : Dev Cert.KernelIdeal.nD) : Cert.KernelIdeal.Attn.V₂ m c Cert.KernelIdeal.main_v2 = Layout.block Part All 1 4 c (result q k v) := by
  refine funext fun (y : Part.Idx) => ?_
  rw [eq_ix4 y]
  refine (Cert.KernelIdeal.Attn.device_result m c (y 0) (y 1) (y 2) (y 3)).trans
    (Eq.trans ?_ ((part_at c (result q k v) (y 0) (y 1) (y 2) (y 3)).trans (Cert.Attention.result_apply q k v (y 0) (global c (y 1)) (y 2) (y 3))).symm)
  refine Cert.Attention.attention_congr (fun e => ?_) (fun j e => ?_) fun j => ?_
  · rw [hq c]; exact part_at c q (y 0) (y 1) (y 2) e
  · rw [hk (owner j)]; exact (part_at (owner j) k (y 0) (place j) (y 2) e).trans (by rw [global_owner])
  · rw [hv (owner j)]; exact (part_at (owner j) v (y 0) (place j) (y 2) (y 3)).trans (by rw [global_owner])

theorem same_function : Cert.algebraic_KernelIdeal_ReferenceIdeal := fun m ρ m' ρ' _ hin =>
  ⟨result (m' (((0 : Dev Cert.ReferenceIdeal.nD).tc : Thread Cert.ReferenceIdeal.nD Cert.ReferenceIdeal.τ).loc Cert.ReferenceIdeal.main_arg0))
      (m' (((0 : Dev Cert.ReferenceIdeal.nD).tc : Thread Cert.ReferenceIdeal.nD Cert.ReferenceIdeal.τ).loc Cert.ReferenceIdeal.main_arg1))
      (m' (((0 : Dev Cert.ReferenceIdeal.nD).tc : Thread Cert.ReferenceIdeal.nD Cert.ReferenceIdeal.τ).loc Cert.ReferenceIdeal.main_arg2)),
    (θ_run Cert.KernelIdeal.defs _ _).mono (fun _ h c =>
      ⟨(h.1 c _ (by decide)).trans (parts_agree m _ _ _ (fun d => (hin d).1) (fun d => (hin d).2.1) (fun d => (hin d).2.2) c),
        (h.1 c _ (by decide)).trans (kept_args m c Cert.KernelIdeal.main_arg0 (by decide) (by decide) (by decide)),
        (h.1 c _ (by decide)).trans (kept_args m c Cert.KernelIdeal.main_arg1 (by decide) (by decide) (by decide)),
        (h.1 c _ (by decide)).trans (kept_args m c Cert.KernelIdeal.main_arg2 (by decide) (by decide) (by decide))⟩)
      (Cert.KernelIdeal.Attn.run_main (F := Ideal) ρ m),
    (θ_run Cert.ReferenceIdeal.defs _ _).mono (fun _ h => h 0) (Cert.ReferenceIdeal.Value.run (F := Ideal) m' ρ')⟩

end Cert.Proof

end
-- ==== Proof.lean ====
/- The claims of attention over a sequence cut across four devices: the frames are Proof/Frames, the value is Proof/Same. -/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Frames
public import proofs.«01_k».proof.Proof.Same

@[expose] public section

noncomputable section

namespace Cert.Proof

open Idealize.ShloMosaic Idealize.SL.Sem

theorem claim : Cert.Claim :=
  ⟨Cert.Kernel.Gen.facts, Cert.KernelIdeal.Gen.facts, Cert.ReferenceIdeal.Gen.facts, frame_kernel, frame_ideal, frame_reference, trivial, same_function⟩

end Cert.Proof

end
